-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S1024x256 : Shape := ⟨2, ![1024, 256]⟩
abbrev S4x1024x1024 : Shape := ⟨3, ![4, 1024, 1024]⟩
abbrev S32x1024x256 : Shape := ⟨3, ![32, 1024, 256]⟩
abbrev S1024x1024 : Shape := ⟨2, ![1024, 1024]⟩
abbrev S4 : Shape := ⟨1, ![4]⟩
abbrev S_ : Shape := ⟨0, ![]⟩
abbrev S8x128 : Shape := ⟨2, ![8, 128]⟩
abbrev S4x8x128 : Shape := ⟨3, ![4, 8, 128]⟩
abbrev S1x1024x1024 : Shape := ⟨3, ![1, 1024, 1024]⟩
abbrev S1 : Shape := ⟨1, ![1]⟩
abbrev S1x1024x256 : Shape := ⟨3, ![1, 1024, 256]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 9
  | .smem => 1
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1024x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S4x1024x1024, .f32⟩
  | .local _ .vmem, ⟨5, _⟩ => ⟨S32x1024x256, .f32⟩
  | .local _ .vmem, ⟨6, _⟩ => ⟨S1024x1024, .bf16⟩
  | .local _ .vmem, ⟨7, _⟩ => ⟨S8x128, .f32⟩
  | .local _ .vmem, ⟨8, _⟩ => ⟨S4x8x128, .f32⟩
  | .local _ .smem, ⟨0, _⟩ => ⟨S4, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch10 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨2, ![5, 32], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v15 : BitVec 1 := Scalar.cmpi .ne v2 c0_i32_6
  let v16 : BitVec 32 := Scalar.extui v15
  let c0_i32_7 : BitVec 32 := 0#32
  let v17 : BitVec 1 := Scalar.cmpi .ne v16 c0_i32_7
  v17

def k0_dev1 : Nat :=
  let c0_i32_46 : BitVec 32 := 0#32
  let c0_i32_44 : BitVec 32 := 0#32
  let c1_i32_45 : BitVec 32 := 1#32
  let v70 : BitVec 32 := Scalar.muli c0_i32_44 c1_i32_45
  let v71 : BitVec 32 := Scalar.addi c0_i32_46 v70
  v71.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v18 : BitVec 1 := Scalar.cmpi .ne v2 c1_i32_8
  let v19 : BitVec 32 := Scalar.extui v18
  let c0_i32_9 : BitVec 32 := 0#32
  let v20 : BitVec 1 := Scalar.cmpi .ne v19 c0_i32_9
  v20

def k0_dev2 : Nat :=
  let c0_i32_46 : BitVec 32 := 0#32
  let c1_i32_44 : BitVec 32 := 1#32
  let c1_i32_45 : BitVec 32 := 1#32
  let v70 : BitVec 32 := Scalar.muli c1_i32_44 c1_i32_45
  let v71 : BitVec 32 := Scalar.addi c0_i32_46 v70
  v71.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v21 : BitVec 1 := Scalar.cmpi .ne v2 c2_i32
  let v22 : BitVec 32 := Scalar.extui v21
  let c0_i32_10 : BitVec 32 := 0#32
  let v23 : BitVec 1 := Scalar.cmpi .ne v22 c0_i32_10
  v23

def k0_dev3 : Nat :=
  let c0_i32_46 : BitVec 32 := 0#32
  let c2_i32_44 : BitVec 32 := 2#32
  let c1_i32_45 : BitVec 32 := 1#32
  let v70 : BitVec 32 := Scalar.muli c2_i32_44 c1_i32_45
  let v71 : BitVec 32 := Scalar.addi c0_i32_46 v70
  v71.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v24 : BitVec 1 := Scalar.cmpi .ne v2 c3_i32
  let v25 : BitVec 32 := Scalar.extui v24
  let c0_i32_11 : BitVec 32 := 0#32
  let v26 : BitVec 1 := Scalar.cmpi .ne v25 c0_i32_11
  v26

def k0_dev4 : Nat :=
  let c0_i32_46 : BitVec 32 := 0#32
  let c3_i32_44 : BitVec 32 := 3#32
  let c1_i32_45 : BitVec 32 := 1#32
  let v70 : BitVec 32 := Scalar.muli c3_i32_44 c1_i32_45
  let v71 : BitVec 32 := Scalar.addi c0_i32_46 v70
  v71.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let c0_i32_14 : BitVec 32 := 0#32
  ![v2.toNat, 0, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v27 : BitVec 32 := Scalar.muli v2 c1024_i32
  let c0_i32_15 : BitVec 32 := 0#32
  ![v27.toNat, 0]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_16 : BitVec 32 := 0#32
  let v31 : BitVec 1 := Scalar.cmpi .ne v2 c0_i32_16
  let v32 : BitVec 32 := Scalar.extui v31
  let c0_i32_17 : BitVec 32 := 0#32
  let v33 : BitVec 1 := Scalar.cmpi .ne v32 c0_i32_17
  v33

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_dev5 : Nat :=
  let c0_i32_46 : BitVec 32 := 0#32
  let c0_i32_44 : BitVec 32 := 0#32
  let c1_i32_45 : BitVec 32 := 1#32
  let v70 : BitVec 32 := Scalar.muli c0_i32_44 c1_i32_45
  let v71 : BitVec 32 := Scalar.addi c0_i32_46 v70
  v71.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v34 : BitVec 1 := Scalar.cmpi .ne v2 c1_i32_18
  let v35 : BitVec 32 := Scalar.extui v34
  let c0_i32_19 : BitVec 32 := 0#32
  let v36 : BitVec 1 := Scalar.cmpi .ne v35 c0_i32_19
  v36

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_dev6 : Nat :=
  let c0_i32_46 : BitVec 32 := 0#32
  let c1_i32_44 : BitVec 32 := 1#32
  let c1_i32_45 : BitVec 32 := 1#32
  let v70 : BitVec 32 := Scalar.muli c1_i32_44 c1_i32_45
  let v71 : BitVec 32 := Scalar.addi c0_i32_46 v70
  v71.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v37 : BitVec 1 := Scalar.cmpi .ne v2 c2_i32_20
  let v38 : BitVec 32 := Scalar.extui v37
  let c0_i32_21 : BitVec 32 := 0#32
  let v39 : BitVec 1 := Scalar.cmpi .ne v38 c0_i32_21
  v39

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_dev7 : Nat :=
  let c0_i32_46 : BitVec 32 := 0#32
  let c2_i32_44 : BitVec 32 := 2#32
  let c1_i32_45 : BitVec 32 := 1#32
  let v70 : BitVec 32 := Scalar.muli c2_i32_44 c1_i32_45
  let v71 : BitVec 32 := Scalar.addi c0_i32_46 v70
  v71.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_22 : BitVec 32 := 3#32
  let v40 : BitVec 1 := Scalar.cmpi .ne v2 c3_i32_22
  let v41 : BitVec 32 := Scalar.extui v40
  let c0_i32_23 : BitVec 32 := 0#32
  let v42 : BitVec 1 := Scalar.cmpi .ne v41 c0_i32_23
  v42

def k0_off9 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_dev8 : Nat :=
  let c0_i32_46 : BitVec 32 := 0#32
  let c3_i32_44 : BitVec 32 := 3#32
  let c1_i32_45 : BitVec 32 := 1#32
  let v70 : BitVec 32 := Scalar.muli c3_i32_44 c1_i32_45
  let v71 : BitVec 32 := Scalar.addi c0_i32_46 v70
  v71.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_35 : BitVec 32 := 0#32
  let v58 : BitVec 1 := Scalar.cmpi .ne v2 c0_i32_35
  let v59 : BitVec 32 := Scalar.extui v58
  let c0_i32_36 : BitVec 32 := 0#32
  let v60 : BitVec 1 := Scalar.cmpi .ne v59 c0_i32_36
  v60

def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_48 : BitVec 32 := 0#32
  let c0_i32_49 : BitVec 32 := 0#32
  ![v2.toNat, 0, 0]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37 : BitVec 32 := 1#32
  let v61 : BitVec 1 := Scalar.cmpi .ne v2 c1_i32_37
  let v62 : BitVec 32 := Scalar.extui v61
  let c0_i32_38 : BitVec 32 := 0#32
  let v63 : BitVec 1 := Scalar.cmpi .ne v62 c0_i32_38
  v63

def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_48 : BitVec 32 := 0#32
  let c0_i32_49 : BitVec 32 := 0#32
  ![v2.toNat, 0, 0]
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39 : BitVec 32 := 2#32
  let v64 : BitVec 1 := Scalar.cmpi .ne v2 c2_i32_39
  let v65 : BitVec 32 := Scalar.extui v64
  let c0_i32_40 : BitVec 32 := 0#32
  let v66 : BitVec 1 := Scalar.cmpi .ne v65 c0_i32_40
  v66

def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_41 : BitVec 32 := 3#32
  let v67 : BitVec 1 := Scalar.cmpi .ne v2 c3_i32_41
  let v68 : BitVec 32 := Scalar.extui v67
  let c0_i32_42 : BitVec 32 := 0#32
  let v69 : BitVec 1 := Scalar.cmpi .ne v68 c0_i32_42
  v69

def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_cond18 (i : grid0.Coords) : BitVec 1 :=
  let arg0 : BitVec 32 := BitVec.ofNat 32 (i 0).val
  let c4_i32_2 : BitVec 32 := 4#32
  let v8 : BitVec 1 := Scalar.cmpi .slt arg0 c4_i32_2
  let v9 : BitVec 32 := Scalar.extui v8
  let c0_i32_3 : BitVec 32 := 0#32
  let v10 : BitVec 1 := Scalar.cmpi .ne v9 c0_i32_3
  v10

def k0_cond19 (i : grid0.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def k0_off15 (i : grid0.Coords) : Fin 3 → Nat :=
  let arg0 : BitVec 32 := BitVec.ofNat 32 (i 0).val
  let v31 : Index := Scalar.indexCast arg0
  let c0_16 : Index := 0#32
  let c0_17 : Index := 0#32
  ![v31.toNat, 0, 0]
def k0_cond20 (i : grid0.Coords) : BitVec 1 :=
  let arg0 : BitVec 32 := BitVec.ofNat 32 (i 0).val
  let c0_i32_11 : BitVec 32 := 0#32
  let v22 : BitVec 1 := Scalar.cmpi .eq arg0 c0_i32_11
  let v23 : BitVec 32 := Scalar.extui v22
  let c0_i32_12 : BitVec 32 := 0#32
  let v24 : BitVec 1 := Scalar.cmpi .ne v23 c0_i32_12
  v24

def k0_off16 (i : grid0.Coords) : Fin 3 → Nat :=
  let arg1 : BitVec 32 := BitVec.ofNat 32 (i 1).val
  let v31 : Index := Scalar.indexCast arg1
  let c0_16 : Index := 0#32
  let c0_17 : Index := 0#32
  ![v31.toNat, 0, 0]
def k0_cond21 (i : grid0.Coords) : BitVec 1 :=
  let arg0 : BitVec 32 := BitVec.ofNat 32 (i 0).val
  let c0_i32_13 : BitVec 32 := 0#32
  let v25 : BitVec 1 := Scalar.cmpi .sgt arg0 c0_i32_13
  let v26 : BitVec 32 := Scalar.extui v25
  let c0_i32_14 : BitVec 32 := 0#32
  let v27 : BitVec 1 := Scalar.cmpi .ne v26 c0_i32_14
  v27

def k0_off17 (i : grid0.Coords) : Fin 3 → Nat :=
  let arg1 : BitVec 32 := BitVec.ofNat 32 (i 1).val
  let v31 : Index := Scalar.indexCast arg1
  let c0_16 : Index := 0#32
  let c0_17 : Index := 0#32
  ![v31.toNat, 0, 0]
def k0_cond22 (i : grid0.Coords) : BitVec 1 :=
  let arg0 : BitVec 32 := BitVec.ofNat 32 (i 0).val
  let c3_i32 : BitVec 32 := 3#32
  let v28 : BitVec 1 := Scalar.cmpi .eq arg0 c3_i32
  let v29 : BitVec 32 := Scalar.extui v28
  let c0_i32_15 : BitVec 32 := 0#32
  let v30 : BitVec 1 := Scalar.cmpi .ne v29 c0_i32_15
  v30

def k0_off18 (i : grid0.Coords) : Fin 3 → Nat :=
  let arg1 : BitVec 32 := BitVec.ofNat 32 (i 1).val
  let v31 : Index := Scalar.indexCast arg1
  let c0_16 : Index := 0#32
  let c0_17 : Index := 0#32
  ![v31.toNat, 0, 0]
def k0_cond25 (i : grid0.Coords) : BitVec 1 :=
  let arg0 : BitVec 32 := BitVec.ofNat 32 (i 0).val
  let c4_i32_4 : BitVec 32 := 4#32
  let v11 : BitVec 1 := Scalar.cmpi .eq arg0 c4_i32_4
  let v12 : BitVec 32 := Scalar.extui v11
  let c0_i32_5 : BitVec 32 := 0#32
  let v13 : BitVec 1 := Scalar.cmpi .ne v12 c0_i32_5
  v13

def k0_cond26 (i : grid0.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v40 : Index := Scalar.indexCast v2
  let c0_18 : Index := 0#32
  let c0_19 : Index := 0#32
  ![v40.toNat, 0, 0]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_20 : BitVec 32 := 0#32
  let v44 : BitVec 1 := Scalar.cmpi .ne v2 c0_i32_20
  let v45 : BitVec 32 := Scalar.extui v44
  let c0_i32_21 : BitVec 32 := 0#32
  let v46 : BitVec 1 := Scalar.cmpi .ne v45 c0_i32_21
  v46

def k0_off20 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let c0_i32_55 : BitVec 32 := 0#32
  ![v2.toNat, 0, 0]
def k0_dev9 : Nat :=
  let c0_i32_53 : BitVec 32 := 0#32
  let c0_i32_51 : BitVec 32 := 0#32
  let c1_i32_52 : BitVec 32 := 1#32
  let v89 : BitVec 32 := Scalar.muli c0_i32_51 c1_i32_52
  let v90 : BitVec 32 := Scalar.addi c0_i32_53 v89
  v90.toNat
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v47 : BitVec 1 := Scalar.cmpi .ne v2 c1_i32_22
  let v48 : BitVec 32 := Scalar.extui v47
  let c0_i32_23 : BitVec 32 := 0#32
  let v49 : BitVec 1 := Scalar.cmpi .ne v48 c0_i32_23
  v49

def k0_off22 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let c0_i32_55 : BitVec 32 := 0#32
  ![v2.toNat, 0, 0]
def k0_dev10 : Nat :=
  let c0_i32_53 : BitVec 32 := 0#32
  let c1_i32_51 : BitVec 32 := 1#32
  let c1_i32_52 : BitVec 32 := 1#32
  let v89 : BitVec 32 := Scalar.muli c1_i32_51 c1_i32_52
  let v90 : BitVec 32 := Scalar.addi c0_i32_53 v89
  v90.toNat
def k0_cond29 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v50 : BitVec 1 := Scalar.cmpi .ne v2 c2_i32
  let v51 : BitVec 32 := Scalar.extui v50
  let c0_i32_24 : BitVec 32 := 0#32
  let v52 : BitVec 1 := Scalar.cmpi .ne v51 c0_i32_24
  v52

def k0_off24 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let c0_i32_55 : BitVec 32 := 0#32
  ![v2.toNat, 0, 0]
def k0_dev11 : Nat :=
  let c0_i32_53 : BitVec 32 := 0#32
  let c2_i32_51 : BitVec 32 := 2#32
  let c1_i32_52 : BitVec 32 := 1#32
  let v89 : BitVec 32 := Scalar.muli c2_i32_51 c1_i32_52
  let v90 : BitVec 32 := Scalar.addi c0_i32_53 v89
  v90.toNat
def k0_cond30 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v53 : BitVec 1 := Scalar.cmpi .ne v2 c3_i32
  let v54 : BitVec 32 := Scalar.extui v53
  let c0_i32_25 : BitVec 32 := 0#32
  let v55 : BitVec 1 := Scalar.cmpi .ne v54 c0_i32_25
  v55

def k0_off26 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let c0_i32_55 : BitVec 32 := 0#32
  ![v2.toNat, 0, 0]
def k0_dev12 : Nat :=
  let c0_i32_53 : BitVec 32 := 0#32
  let c3_i32_51 : BitVec 32 := 3#32
  let c1_i32_52 : BitVec 32 := 1#32
  let v89 : BitVec 32 := Scalar.muli c3_i32_51 c1_i32_52
  let v90 : BitVec 32 := Scalar.addi c0_i32_53 v89
  v90.toNat
def k0_cond35 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_34 : BitVec 32 := 0#32
  let v68 : BitVec 1 := Scalar.cmpi .ne v2 c0_i32_34
  let v69 : BitVec 32 := Scalar.extui v68
  let c0_i32_35 : BitVec 32 := 0#32
  let v70 : BitVec 1 := Scalar.cmpi .ne v69 c0_i32_35
  v70

def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_53 : BitVec 32 := 0#32
  let c0_i32_54 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v71 : BitVec 1 := Scalar.cmpi .ne v2 c1_i32_36
  let v72 : BitVec 32 := Scalar.extui v71
  let c0_i32_37 : BitVec 32 := 0#32
  let v73 : BitVec 1 := Scalar.cmpi .ne v72 c0_i32_37
  v73

def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_53 : BitVec 32 := 0#32
  let c0_i32_54 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v74 : BitVec 1 := Scalar.cmpi .ne v2 c2_i32_38
  let v75 : BitVec 32 := Scalar.extui v74
  let c0_i32_39 : BitVec 32 := 0#32
  let v76 : BitVec 1 := Scalar.cmpi .ne v75 c0_i32_39
  v76

def k0_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_53 : BitVec 32 := 0#32
  let c0_i32_54 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_40 : BitVec 32 := 3#32
  let v77 : BitVec 1 := Scalar.cmpi .ne v2 c3_i32_40
  let v78 : BitVec 32 := Scalar.extui v77
  let c0_i32_41 : BitVec 32 := 0#32
  let v79 : BitVec 1 := Scalar.cmpi .ne v78 c0_i32_41
  v79

def k0_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_53 : BitVec 32 := 0#32
  let c0_i32_54 : BitVec 32 := 0#32
  ![v2.toNat, 0, 0]
def k0_off32 (i : grid0.Coords) : Fin 3 → Nat :=
  let arg1 : BitVec 32 := BitVec.ofNat 32 (i 1).val
  let v19 : Index := Scalar.indexCast arg1
  let c0 : Index := 0#32
  let c0_8 : Index := 0#32
  ![v19.toNat, 0, 0]
def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .eq arg0 c4_i32
  let c31_i32 : BitVec 32 := 31#32
  let v2 : BitVec 32 := Scalar.select v1 c31_i32 arg1
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.KernelIdealCells.lean ====
/-
# The kernel's semaphores and buffers on the mesh of four devices

Each device runs the same body. Eighteen semaphores of a device take part: the barrier semaphore, the semaphore of the
local copy, and four families of four (`send`, `recv`, `amax send`, `amax recv`), indexed by the partner device.
This module names them, names the blocks of the buffers the transfers read and write, and states which elements of a
buffer each block is.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.ValueLayout
public import Idealize.ShloMosaic.Lib.Tactic
public import Idealize.ShloMosaic.Lib.Ring
public import Idealize.ShloMosaic.Lib.ShareLeaves

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline library's copy and the exchange's (duties named by devices) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The kinds of semaphore of one device: `inl 0` the barrier, `inl 1` the local copy's, `inr (q, j)` the semaphore for
    partner `j` of family `q` (0 send, 1 receive, 2 amax send, 3 amax receive). -/
abbrev CK : Type := Fin 2 ⊕ Fin 4 × Fin 4

/-- The runtime's barrier semaphore. -/
abbrev barS : Sem sig := (SemArray.scalar (sig.barrier 0 rfl) : Sems sig S_).sem
/-- The local copy's semaphore. -/
abbrev copyS : DmaSem sig := (cc0_scratch5 : DmaSems sig S_).sem
/-- The semaphore of family `q` for partner `j`. -/
def dsem : Fin 4 → Fin 4 → DmaSem sig
  | 0, j => ⟨4 + j.val, by have := j.isLt; show 4 + j.val < 21; omega⟩
  | 1, j => ⟨8 + j.val, by have := j.isLt; show 8 + j.val < 21; omega⟩
  | 2, j => ⟨13 + j.val, by have := j.isLt; show 13 + j.val < 21; omega⟩
  | 3, j => ⟨17 + j.val, by have := j.isLt; show 17 + j.val < 21; omega⟩

def csem : CK → SemLoc sig
  | .inl 0 => .reg barS
  | .inl 1 => .dma copyS
  | .inr (q, j) => .dma (dsem q j)

abbrev kcell (ck : Dev nD × CK) : GSem nD τ sig := ((ck.1 : Thread nD τ), csem ck.2)
abbrev barCell (c : Dev nD) : GSem nD τ sig := kcell (c, .inl 0)
abbrev copyCell (c : Dev nD) : GSem nD τ sig := kcell (c, .inl 1)
abbrev xCell (q : Fin 4) (c : Dev nD) (j : Fin 4) : GSem nD τ sig := kcell (c, .inr (q, j))

theorem csem_injective : Function.Injective csem := by decide

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The kinds, listed. -/
def kinds : List CK :=
  [.inl 0, .inl 1, .inr (0, 0), .inr (0, 1), .inr (0, 2), .inr (0, 3), .inr (1, 0), .inr (1, 1), .inr (1, 2), .inr (1, 3),
   .inr (2, 0), .inr (2, 1), .inr (2, 2), .inr (2, 3), .inr (3, 0), .inr (3, 1), .inr (3, 2), .inr (3, 3)]

/-- The kind of a semaphore, if it is one of the eighteen. -/
def kind (s : SemLoc sig) : Option CK := kinds.find? fun k => decide (csem k = s)

theorem kind_csem (k : CK) : kind (csem k) = some k := by revert k; decide

/-! ## Buffers and blocks -/

abbrev xW : Memref sig .tc .hbm S4096x1024 .f32 := Memref.whole main_arg0
abbrev cW : Memref sig .tc .vmem S4x1024x1024 .f32 := Memref.whole cc0_scratch0
abbrev yW : Memref sig .tc .vmem S32x1024x256 .f32 := Memref.whole cc0_scratch1
abbrev bW : Memref sig .tc .vmem S1024x1024 .bf16 := Memref.whole cc0_scratch2
abbrev sW : Memref sig .tc .vmem S8x128 .f32 := Memref.whole cc0_scratch6
abbrev rW : Memref sig .tc .vmem S4x8x128 .f32 := Memref.whole cc0_scratch7
abbrev mW : Memref sig .tc .smem S4 .f32 := Memref.whole cc0_scratch10

theorem xoff_inb (j : Fin 4) : ∀ a, (![1024 * j.val, 0] : Fin 2 → Nat) a + S1024x1024.size a ≤ S4096x1024.size a := by
  revert j; decide
theorem coff_inb (j : Fin 4) : ∀ a, (![j.val, 0, 0] : Fin 3 → Nat) a + S1x1024x1024.size a ≤ S4x1024x1024.size a := by
  revert j; decide
theorem roff_inb (j : Fin 4) : ∀ a, (![j.val, 0, 0] : Fin 3 → Nat) a + S1x8x128.size a ≤ S4x8x128.size a := by
  revert j; decide
theorem yoff_inb (n : Fin 32) : ∀ a, (![n.val, 0, 0] : Fin 3 → Nat) a + S1x1024x256.size a ≤ S32x1024x256.size a := by
  revert n; decide

abbrev xR (j : Fin 4) : Rect S4096x1024 := Rect.unit (s := S4096x1024) ![1024 * j.val, 0] S1024x1024.size (xoff_inb j)
abbrev cR (j : Fin 4) : Rect S4x1024x1024 := Rect.unit (s := S4x1024x1024) ![j.val, 0, 0] S1x1024x1024.size (coff_inb j)
abbrev rR (j : Fin 4) : Rect S4x8x128 := Rect.unit (s := S4x8x128) ![j.val, 0, 0] S1x8x128.size (roff_inb j)
abbrev yR (n : Fin 32) : Rect S32x1024x256 := Rect.unit (s := S32x1024x256) ![n.val, 0, 0] S1x1024x256.size (yoff_inb n)

/-- Row block `j` of `x`; slot `j` of the gathered blocks; slot `j` of the gathered maxima. -/
abbrev xM (j : Fin 4) : Memref sig .tc .hbm S1024x1024 .f32 := xW.slice (xR j) (fun _ => rfl)
abbrev cM (j : Fin 4) : Memref sig .tc .vmem S1024x1024 .f32 :=
  (cW.slice (cR j) (fun _ => rfl)).squeeze S1024x1024 squeezes_S1x1024x1024_S1024x1024
abbrev rM (j : Fin 4) : Memref sig .tc .vmem S8x128 .f32 :=
  (rW.slice (rR j) (fun _ => rfl)).squeeze S8x128 squeezes_S1x8x128_S8x128

/-- Slot `j` is the elements with first coordinate `j`, -/
theorem mem_cM (j : Fin 4) (i : S4x1024x1024.Idx) : i ∈ (cM j).view.set ↔ (i 0).val = j.val := by
  have h : (cM j).view.set = (cR j).set := (View.set_reshape _ _).trans (View.set_slice_whole cc0_scratch0 (cR j))
  rw [h, Rect.mem_set_unit]
  have h1 : (i 1).val < 1024 := (i 1).isLt
  have h2 : (i 2).val < 1024 := (i 2).isLt
  constructor
  · intro h
    have := h 0
    simp only [Matrix.cons_val_zero] at this
    change j.val ≤ (i 0).val ∧ (i 0).val < j.val + 1 at this
    omega
  · intro h a
    fin_cases a
    · show j.val ≤ (i 0).val ∧ (i 0).val < j.val + 1
      omega
    · exact ⟨Nat.zero_le _, by show (i 1).val < 0 + 1024; omega⟩
    · exact ⟨Nat.zero_le _, by show (i 2).val < 0 + 1024; omega⟩

theorem mem_rM (j : Fin 4) (i : S4x8x128.Idx) : i ∈ (rM j).view.set ↔ (i 0).val = j.val := by
  have h : (rM j).view.set = (rR j).set := (View.set_reshape _ _).trans (View.set_slice_whole cc0_scratch7 (rR j))
  rw [h, Rect.mem_set_unit]
  have h1 : (i 1).val < 8 := (i 1).isLt
  have h2 : (i 2).val < 128 := (i 2).isLt
  constructor
  · intro h
    have := h 0
    change j.val ≤ (i 0).val ∧ (i 0).val < j.val + 1 at this
    omega
  · intro h a
    fin_cases a
    · show j.val ≤ (i 0).val ∧ (i 0).val < j.val + 1
      omega
    · exact ⟨Nat.zero_le _, by show (i 1).val < 0 + 8; omega⟩
    · exact ⟨Nat.zero_le _, by show (i 2).val < 0 + 128; omega⟩

/-- and row block `j` of `x` the rows `1024 j … 1024 j + 1023`. -/
theorem mem_xM (j : Fin 4) (i : S4096x1024.Idx) : i ∈ (xM j).view.set ↔ 1024 * j.val ≤ (i 0).val ∧ (i 0).val < 1024 * j.val + 1024 := by
  have h : (xM j).view.set = (xR j).set := View.set_slice_whole main_arg0 (xR j)
  rw [h, Rect.mem_set_unit]
  have h1 : (i 1).val < 1024 := (i 1).isLt
  constructor
  · intro h
    exact h 0
  · intro h a
    fin_cases a
    · exact h
    · exact ⟨Nat.zero_le _, by show (i 1).val < 0 + 1024; omega⟩

/-- The blocks' element sets. -/
abbrev cS (j : Fin 4) : Finset S4x1024x1024.Idx := (cM j).view.set
abbrev rS (j : Fin 4) : Finset S4x8x128.Idx := (rM j).view.set
abbrev xS (j : Fin 4) : Finset S4096x1024.Idx := (xM j).view.set

theorem cM_disjoint (j j' : Fin 4) (h : j ≠ j') : Disjoint (cS j) (cS j') :=
  Finset.disjoint_left.mpr fun i hi hi' => h (Fin.ext (((mem_cM j i).mp hi).symm.trans ((mem_cM j' i).mp hi')))
theorem rM_disjoint (j j' : Fin 4) (h : j ≠ j') : Disjoint (rS j) (rS j') :=
  Finset.disjoint_left.mpr fun i hi hi' => h (Fin.ext (((mem_rM j i).mp hi).symm.trans ((mem_rM j' i).mp hi')))
theorem xM_disjoint (j j' : Fin 4) (h : j ≠ j') : Disjoint (xS j) (xS j') :=
  Finset.disjoint_left.mpr fun i hi hi' => h (Fin.ext (by
    have h1 := (mem_xM j i).mp hi
    have h2 := (mem_xM j' i).mp hi'
    omega))
theorem cM_cover : Finset.univ.biUnion cS = Finset.univ := by
  ext i
  simp only [Finset.mem_biUnion, Finset.mem_univ, true_and, iff_true]
  exact ⟨i 0, (mem_cM _ i).mpr rfl⟩
theorem rM_cover : Finset.univ.biUnion rS = Finset.univ := by
  ext i
  simp only [Finset.mem_biUnion, Finset.mem_univ, true_and, iff_true]
  exact ⟨i 0, (mem_rM _ i).mpr rfl⟩
theorem xM_cover : Finset.univ.biUnion xS = Finset.univ := by
  ext i
  simp only [Finset.mem_biUnion, Finset.mem_univ, true_and, iff_true]
  have h0 : (i 0).val < 4096 := (i 0).isLt
  have hj : (i 0).val / 1024 < 4 := by omega
  exact ⟨⟨(i 0).val / 1024, hj⟩, (mem_xM ⟨(i 0).val / 1024, hj⟩ i).mpr (by dsimp only; omega)⟩

/-! ## Contents -/

/-- Device `c`'s columns of `x` and its copy of `w`. -/
def xin (c : Dev nD) : S4096x1024.Idx → Elt F .f32 := m ((c : Thread nD τ).loc main_arg0)

/-- What the exchange leaves in the gathered blocks of device `c`: slot `s` holds rows `1024 c … 1024 c + 1023` of
    device `s`'s columns of `x`. -/
def commC (c : Dev nD) : S4x1024x1024.Idx → Elt F .f32 := fun i =>
  xin m (i 0) (ix2 (n0 := 4096) (n1 := 1024) ⟨1024 * c.val + (i 1).val, by
    have h1 : (i 1).val < 1024 := (i 1).isLt
    have h2 : c.val < 4 := c.isLt
    omega⟩ (i 2))

/-- The element of slot `j` at `y`, and of row block `j` of `x`. -/
theorem read_cM (j : Fin 4) (g : S4x1024x1024.Idx → Elt F .f32) (y : S1024x1024.Idx) :
    (cM j).view.read (Elt F) g y = g (ix3 (n0 := 4) (n1 := 1024) (n2 := 1024) j (y 0) (y 1)) := by
  rw [Memref.read_squeeze_slice cW (cR j) (fun _ => rfl) squeezes_S1x1024x1024_S1024x1024 shapeCasts_S1x1024x1024_S1024x1024]
  obtain ⟨a, b, rfl⟩ : ∃ (a : Fin 1024) (b : Fin 1024), y = ix2 (n0 := 1024) (n1 := 1024) a b := ⟨y 0, y 1, eq_ix2 y⟩
  refine (shapeCast_1ab_ab_apply (a := 1024) (b := 1024) _ _ a b).trans ?_
  show g _ = g _
  congr 1
  funext d
  fin_cases d
  · exact Fin.ext (by show j.val + 1 * 0 = j.val; omega)
  · exact Fin.ext (by show 0 + 1 * a.val = a.val; omega)
  · exact Fin.ext (by show 0 + 1 * b.val = b.val; omega)

theorem read_rM (j : Fin 4) (g : S4x8x128.Idx → Elt F .f32) (y : S8x128.Idx) :
    (rM j).view.read (Elt F) g y = g (ix3 (n0 := 4) (n1 := 8) (n2 := 128) j (y 0) (y 1)) := by
  rw [Memref.read_squeeze_slice rW (rR j) (fun _ => rfl) squeezes_S1x8x128_S8x128 shapeCasts_S1x8x128_S8x128]
  obtain ⟨a, b, rfl⟩ : ∃ (a : Fin 8) (b : Fin 128), y = ix2 (n0 := 8) (n1 := 128) a b := ⟨y 0, y 1, eq_ix2 y⟩
  refine (shapeCast_1ab_ab_apply (a := 8) (b := 128) _ _ a b).trans ?_
  show g _ = g _
  congr 1
  funext d
  fin_cases d
  · exact Fin.ext (by show j.val + 1 * 0 = j.val; omega)
  · exact Fin.ext (by show 0 + 1 * a.val = a.val; omega)
  · exact Fin.ext (by show 0 + 1 * b.val = b.val; omega)

/-- Row block `c` of device `s`'s `x` is what slot `s` of device `c`'s gathered blocks is to hold. -/
theorem read_x_eq (c s : Dev nD) :
    (xM c).view.read (Elt F) (xin m s) = (cM s).view.read (Elt F) (commC m c) := by
  funext y
  rw [read_cM]
  unfold commC
  show xin m s _ = xin m s _
  congr 1
  funext d
  fin_cases d
  · exact Fin.ext (by show 1024 * c.val + 1 * (y 0).val = 1024 * c.val + (y 0).val; omega)
  · exact Fin.ext (by show 0 + 1 * (y 1).val = (y 1).val; omega)

/-- The landing of row block `c` of device `s`'s `x` in slot `s` of device `c`, whatever was there. -/
theorem landed_x (c s : Dev nD) (fd : S4x1024x1024.Idx → Elt F .f32) : ∀ i ∈ cS s,
    (cM s).view.write (Elt F) fd ((xM c).view.read (Elt F) (xin m s)) Finset.univ i = commC m c i := by
  intro i hi
  rw [read_x_eq, View.write_read_eq_piecewise]
  exact Finset.piecewise_eq_of_mem _ _ _ hi

/-! ## Values -/

/-- Slot `p` of the gathered blocks of device `c`, as loaded, and cast for the product. -/
def xbC (c : Dev nD) (p : Fin 4) : FVec F S1024x1024 .bf16 := k0_pay1 (cW.view.readAt (Elt F) (cR p).toLoadRect (commC m c))

/-- The block of `w` staged at grid point `t`. -/
def wB (c : Dev nD) (t : ℕ) : Vec F S1024x256 .f32 :=
  if h : t < 160 then iblk m c (0 : Fin 2) ⟨t, lt_of_lt_of_eq h N_0.symm⟩ else fun _ => Scalar.ofBits .f32 0#32

/-- Tile `n` of the product after `k` of the four contraction steps. -/
def accC (c : Dev nD) (n : ℕ) : ℕ → Vec F S1x1024x256 .f32
  | 0 => fun _ => Scalar.ofBits .f32 0#32
  | 1 => k0_pay3 (wB m c n) (xbC m c 0)
  | k + 2 => k0_pay4 (wB m c (32 * (k + 1) + n)) (xbC m c (Fin.ofNat 4 (k + 1))) (accC c n (k + 1))

/-- The running maximum after tile `n`. -/
def locM (c : Dev nD) : ℕ → Elt F .f32
  | 0 => k0_pay5 (accC m c 0 4)
  | n + 1 => k0_pay6 (accC m c (n + 1) 4) (locM c n)

/-- The block device `s` sends: its maximum, broadcast. -/
def aBuf (s : Dev nD) : S8x128.Idx → Elt F .f32 := k0_pay11 (locM m s 31)

/-- The gathered maxima: slot `s` holds device `s`'s block, on every device. -/
def amaxC : S4x8x128.Idx → Elt F .f32 := fun i => aBuf m (i 0) (ix2 (n0 := 8) (n1 := 128) (i 1) (i 2))

theorem landed_a (s : Dev nD) (fd : S4x8x128.Idx → Elt F .f32) : ∀ i ∈ rS s,
    (rM s).view.write (Elt F) fd (sW.view.read (Elt F) (aBuf m s)) Finset.univ i = amaxC m i := by
  intro i hi
  rw [show sW.view.read (Elt F) (aBuf m s) = (rM s).view.read (Elt F) (amaxC m) from by
    funext y; rw [read_rM]; unfold amaxC; exact congrArg (aBuf m s) (eq_ix2 y), View.write_read_eq_piecewise]
  exact Finset.piecewise_eq_of_mem _ _ _ hi

/-- The store of a device's own block in its own slot. -/
theorem stored_a (s : Dev nD) (fd : S4x8x128.Idx → Elt F .f32) : ∀ i ∈ rS s,
    (rW.access (rR s)).write (Elt F) fd (k0_pay12 (aBuf m s)) Finset.univ i = amaxC m i := by
  intro i hi
  rw [show k0_pay12 (aBuf m s) = (rW.access (rR s)).read (Elt F) (amaxC m) from by
    funext y
    obtain ⟨u, a, b, rfl⟩ : ∃ (u : Fin 1) (a : Fin 8) (b : Fin 128), y = ix3 (n0 := 1) (n1 := 8) (n2 := 128) u a b :=
      ⟨y 0, y 1, y 2, eq_ix3 y⟩
    unfold k0_pay12
    refine (shapeCast_ab_1ab_apply (a := 8) (b := 128) _ _ u a b).trans ?_
    show aBuf m s (ix2 a b) = amaxC m ((rW.access (rR s)).emb (ix3 (n0 := 1) (n1 := 8) (n2 := 128) u a b))
    unfold amaxC
    have h0 : (((rW.access (rR s)).emb (ix3 (n0 := 1) (n1 := 8) (n2 := 128) u a b) : S4x8x128.Idx) 0) = s :=
      Fin.ext (by show s.val + 1 * u.val = s.val; omega)
    rw [h0]
    congr 1
    funext d
    fin_cases d
    · exact Fin.ext (by show a.val = 0 + 1 * a.val; omega)
    · exact Fin.ext (by show b.val = 0 + 1 * b.val; omega), View.write_read_eq_piecewise]
  have hS : (rW.access (rR s)).setOn Finset.univ = (rM s).view.set := by
    rw [View.setOn_univ]; exact ((View.set_reshape _ _).symm)
  exact Finset.piecewise_eq_of_mem _ _ _ (by rw [hS]; exact hi)

/-- The result tile `n` of device `c`. -/
def outC (c : Dev nD) (n : ℕ) : FVec F S1024x256 .f32 := k0_pay10 (k0_pay8 (amaxC m)) (k0_pay9 (amaxC m)) (accC m c n 4)

end Cert.KernelIdealProof

end
-- ==== Proof.KernelIdealProtocol.lean ====
/-
# The protocol of the exchange

Who signals which semaphore, how much, and what each signal hands over; what each device owes at launch; and in which
order semaphores may be waited for.
-/
module

public import proofs.«01_k».proof.Proof.KernelIdealCells

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is handed over -/

/-- Slot `j` of device `c`'s gathered blocks, at contents `f`; -/
def cPts (c j : Dev nD) (f : S4x1024x1024.Idx → Elt F .f32) : sProp 𝕄 :=
  (cM j).view.loc (c : Thread nD τ) ↦[(cM j).view.set]{fullShare} f
/-- slot `j` of its gathered maxima; -/
def rPts (c j : Dev nD) (f : S4x8x128.Idx → Elt F .f32) : sProp 𝕄 :=
  (rM j).view.loc (c : Thread nD τ) ↦[(rM j).view.set]{fullShare} f
/-- row block `j` of its `x`, as launched; -/
def xPts (c j : Dev nD) : sProp 𝕄 :=
  (xM j).view.loc (c : Thread nD τ) ↦[(xM j).view.set]{fullShare} xin m c
/-- a quarter share of its outgoing maximum block. -/
def aPts (c j : Dev nD) : sProp 𝕄 :=
  sW.view.loc (c : Thread nD τ) ↦[sW.view.set]{ShareLeaves.leaf 2 fullShare j} aBuf m c

omit [FloatOps F] in
instance cPts_storable (c j : Dev nD) (f) : BI.Storable (upEmb : UEmb _ 𝕄) (cPts (F := F) c j f) := by unfold cPts; infer_instance
omit [FloatOps F] in
instance rPts_storable (c j : Dev nD) (f) : BI.Storable (upEmb : UEmb _ 𝕄) (rPts (F := F) c j f) := by unfold rPts; infer_instance
omit [FloatOps F] in
instance xPts_storable (c j : Dev nD) : BI.Storable (upEmb : UEmb _ 𝕄) (xPts (F := F) m c j) := by unfold xPts; infer_instance
instance aPts_storable (c j : Dev nD) : BI.Storable (upEmb : UEmb _ 𝕄) (aPts (F := F) m c j) := by unfold aPts; infer_instance

/-- The credit of a transfer of a block of `x`, and of one of a block of maxima. -/
def Nx : ℕ := (cM 0).view.dmaCredit
def Na : ℕ := (rM 0).view.dmaCredit
theorem Nx_pos : 0 < Nx := View.dmaCredit_pos _ (by decide)
theorem Na_pos : 0 < Na := View.dmaCredit_pos _ (by decide)

/-! ## The schedule -/

/-- Who pays a semaphore of device `c`: the barrier every other device, the local copy's the device itself, a partner's
    semaphore one payment unless the partner is the device itself. -/
def dut (c : Dev nD) : CK → Finset (Fin 4)
  | .inl 0 => Finset.univ.erase c
  | .inl 1 => {0}
  | .inr (_, j) => if j = c then ∅ else {0}

def amtQ : Fin 4 → ℕ
  | 0 => Nx
  | 1 => Nx
  | 2 => Na
  | 3 => Na

def amt : CK → ℕ
  | .inl 0 => 1
  | .inl 1 => Nx
  | .inr (q, _) => amtQ q

theorem amt_pos (k : CK) : 0 < amt k := by
  rcases k with k | ⟨q, j⟩
  · fin_cases k
    · exact Nat.one_pos
    · exact Nx_pos
  · fin_cases q
    · exact Nx_pos
    · exact Nx_pos
    · exact Na_pos
    · exact Na_pos

/-- What device `d`'s entry signal hands device `c`: the slots of `d` that `c` will write. -/
def barPay (c d : Dev nD) : sProp 𝕄 := iprop((∃ f, cPts d c f) ∗ (∃ f, rPts d c f))

/-- What the payment of a semaphore of family `q` for partner `j` hands device `c`. -/
def payQ (c j : Dev nD) : Fin 4 → sProp 𝕄
  | 0 => xPts m c j
  | 1 => cPts c j (commC m c)
  | 2 => aPts m c j
  | 3 => rPts c j (amaxC m)

def pay (c : Dev nD) : CK → Fin 4 → sProp 𝕄
  | .inl 0, d => barPay c d
  | .inl 1, _ => iprop(cPts c c (commC m c) ∗ xPts m c c)
  | .inr (q, j), _ => payQ m c j q

instance pay_storable (c : Dev nD) (k : CK) (d : Fin 4) : BI.Storable (upEmb : UEmb _ 𝕄) (pay (F := F) m c k d) := by
  rcases k with k | ⟨q, j⟩
  · fin_cases k
    · show BI.Storable upEmb (barPay c d); unfold barPay; infer_instance
    · show BI.Storable upEmb iprop(cPts c c (commC m c) ∗ xPts m c c); infer_instance
  · fin_cases q
    · show BI.Storable upEmb (xPts m c j); infer_instance
    · show BI.Storable upEmb (cPts c j (commC m c)); infer_instance
    · show BI.Storable upEmb (aPts m c j); infer_instance
    · show BI.Storable upEmb (rPts c j (amaxC m)); infer_instance

def dutG (g : GSem nD τ sig) : Finset (Fin 4) := match kind g.2 with
  | some k => dut g.1.1 k
  | none => ∅
def amtG (g : GSem nD τ sig) : ℕ := match kind g.2 with
  | some k => amt k
  | none => 1
def payG (g : GSem nD τ sig) (d : Fin 4) : sProp 𝕄 := match kind g.2 with
  | some k => pay m g.1.1 k d
  | none => iprop(emp)

/-- One round of payments. -/
def exRd : Rounds.Schedule (GSem nD τ sig) (Fin 4) 𝕄 where
  duties g r := if r = 0 ∧ g.1.2 = .tc then dutG g else ∅
  unitless _ := False
  amount g _ _ := amtG g
  payload g _ d := payG m g d
  amount_pos g _ _ _ := by
    unfold amtG
    split
    · exact amt_pos _
    · exact Nat.one_pos

instance exRd_payload_storable (g : GSem nD τ sig) (r : ℕ) (d : Fin 4) :
    BI.Storable (upEmb : UEmb _ 𝕄) ((exRd (F := F) m).payload g r d) := by
  show BI.Storable upEmb (payG m g d)
  unfold payG
  split <;> infer_instance

section Sched
variable (c : Dev nD) (k : CK)

theorem duties_at : (exRd (F := F) m).duties (kcell (c, k)) 0 = dut c k := by
  dsimp only [exRd]; rw [if_pos ⟨rfl, rfl⟩]; unfold dutG; rw [kind_csem]
theorem duties_later (g : GSem nD τ sig) : ∀ r, 1 ≤ r → (exRd (F := F) m).duties g r = ∅ :=
  fun r hr => by dsimp only [exRd]; rw [if_neg fun h => by omega]
theorem amount_at (r : ℕ) (d : Fin 4) : (exRd (F := F) m).amount (kcell (c, k)) r d = amt k := by
  dsimp only [exRd]; unfold amtG; rw [kind_csem]
theorem payload_at (r : ℕ) (d : Fin 4) : (exRd (F := F) m).payload (kcell (c, k)) r d = pay m c k d := by
  dsimp only [exRd]; unfold payG; rw [kind_csem]
theorem expect_at : (exRd (F := F) m).expect (kcell (c, k)) 0 = (dut c k).card * amt k := by
  unfold Schedule.expect Schedule.amountOf
  rw [duties_at, Finset.sum_congr rfl fun d _ => amount_at m c k 0 d, Finset.sum_const, smul_eq_mul]
theorem rest_at : bigSep ((exRd (F := F) m).duties (kcell (c, k)) 0 \ ∅) (fun d => (exRd (F := F) m).payload (kcell (c, k)) 0 d)
    = bigSep (dut c k) fun d => pay m c k d := by
  rw [Finset.sdiff_empty, duties_at]; exact bigSep_congr fun d _ => payload_at m c k 0 d

/-- A partner's semaphore whose partner is the device itself has no payment, ever. -/
theorem duties_self (q : Fin 4) : ∀ r, 0 ≤ r → (exRd (F := F) m).duties (xCell q c c) r = ∅ := fun r _ => by
  rcases r with _ | r
  · rw [duties_at]; exact if_pos rfl
  · exact duties_later m _ _ (by omega)

end Sched

/-! ## Resources indexed by a partner -/

/-- `P` when `j` is another device, nothing when it is `c` itself. -/
def peer (c j : Dev nD) (P : sProp 𝕄) : sProp 𝕄 := if j = c then iprop(emp) else P

omit [FloatOps F] in
theorem peer_self (c : Dev nD) (P : sProp 𝕄) : peer c c P = iprop(emp) := if_pos rfl
omit [FloatOps F] in
theorem peer_ne {c j : Dev nD} (h : j ≠ c) (P : sProp 𝕄) : peer c j P = P := if_neg h

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Over the other devices is over all, with nothing at `c`. -/
theorem bigSep_others (c : Dev nD) (Φ : Dev nD → sProp 𝕄) :
    bigSep (Finset.univ.erase c) Φ = bigSep Finset.univ fun j => peer c j (Φ j) := by
  rw [bigSep_univ_at (fun j => peer c j (Φ j)) c, peer_self]
  rw [bigSep_congr (s := Finset.univ.erase c) (Ψ := fun j => peer c j (Φ j)) fun j hj => (peer_ne (Finset.ne_of_mem_erase hj) _).symm]
  exact (Entails.antisymm emp_sep.1 emp_sep.2).symm

omit [FloatOps F] in
/-- Over all devices is at `c`, and over the others. -/
theorem bigSep_own (c : Dev nD) (Φ : Dev nD → sProp 𝕄) :
    bigSep Finset.univ Φ = iprop(Φ c ∗ bigSep Finset.univ fun j => peer c j (Φ j)) := by
  rw [← bigSep_others, bigSep_univ_at Φ c]

/-! ## What each device owes at launch -/

def tb (c j : Dev nD) : CellTallies nD τ sig Unit := if j = c then 0 else tallyAt (barCell j) () 1
def tr (c j : Dev nD) : CellTallies nD τ sig Unit := if j = c then 0 else tallyAt (xCell 1 j c) () Nx
def ta (c j : Dev nD) : CellTallies nD τ sig Unit := if j = c then 0 else tallyAt (xCell 3 j c) () Na

/-- The credits of `c`'s blocks of maxima to the last `k` partners; -/
def owA (c : Dev nD) : ℕ → CellTallies nD τ sig Unit
  | 0 => 0
  | k + 1 => owA c k + ta c (Fin.ofNat 4 (3 - k))
/-- those, and the credits of `c`'s blocks of `x` to the last `k`; -/
def owR (c : Dev nD) : ℕ → CellTallies nD τ sig Unit
  | 0 => owA c 4
  | k + 1 => owR c k + tr c (Fin.ofNat 4 (3 - k))
/-- those, and the entry signals to the last `k`. -/
def owB (c : Dev nD) : ℕ → CellTallies nD τ sig Unit
  | 0 => owR c 4
  | k + 1 => owB c k + tb c (Fin.ofNat 4 (3 - k))

abbrev O₀ (c : Dev nD) : CellTallies nD τ sig Unit := owB c 4

def lvK : CK → ℕ
  | .inl 0 => 1
  | .inl 1 => 0
  | .inr (q, _) => if q = 1 then 2 else if q = 3 then 3 else 0

def L (g : GSem nD τ sig) : Finset Unit := if g.1.2 = .tc then {()} else ∅
/-- Barrier semaphores at 1, receive at 2, amax receive at 3, everything else at 0. -/
def lv (g : GSem nD τ sig) (_ : Unit) : ℕ := match kind g.2 with
  | some k => lvK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) (u : Unit) : lv (kcell (c, k)) u = lvK k := by unfold lv; rw [kind_csem]

/-- Everything owed is on TensorCore semaphores above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem Above.tally {n : ℕ} (c : Dev nD) (k : CK) (N : ℕ) (hk : n < lvK k) : Above n (tallyAt (kcell (c, k)) () N) := fun g u hg => by
  rw [tallyAt_apply] at hg
  by_cases h : g = kcell (c, k) ∧ u = ()
  · rw [h.1, L_tc, lv_at]; exact ⟨Finset.mem_singleton_self _, hk⟩
  · rw [if_neg h] at hg; exact absurd hg (Nat.lt_irrefl 0)
theorem Above.mono {n n' : ℕ} {O : CellTallies nD τ sig Unit} (h : Above n O) (hn : n' ≤ n) : Above n' O :=
  fun g u hg => ⟨(h g u hg).1, lt_of_le_of_lt hn (h g u hg).2⟩

theorem above_ta (c j : Dev nD) : Above 2 (ta c j) := by
  unfold ta; split
  · exact Above.zero 2
  · exact Above.tally j (.inr (3, c)) Na (show 2 < 3 by decide)
theorem above_tr (c j : Dev nD) : Above 1 (tr c j) := by
  unfold tr; split
  · exact Above.zero 1
  · exact Above.tally j (.inr (1, c)) Nx (show 1 < 2 by decide)
theorem above_tb (c j : Dev nD) : Above 0 (tb c j) := by
  unfold tb; split
  · exact Above.zero 0
  · exact Above.tally j (.inl 0) 1 (by decide)

theorem above_owA (c : Dev nD) : ∀ k, Above 2 (owA c k)
  | 0 => Above.zero 2
  | k + 1 => (above_owA c k).add (above_ta c _)
theorem above_owR (c : Dev nD) : ∀ k, Above 1 (owR c k)
  | 0 => (above_owA c 4).mono (by decide)
  | k + 1 => (above_owR c k).add (above_tr c _)
theorem above_owB (c : Dev nD) : ∀ k, Above 0 (owB c k)
  | 0 => (above_owR c 4).mono (by decide)
  | k + 1 => (above_owB c k).add (above_tb c _)

omit [FloatOps F] in
/-- A semaphore of the exchange may be waited for while everything owed is above its level; -/
theorem mayWait_at (c : Dev nD) (k : CK) {O : CellTallies nD τ sig Unit} (h : Above (lvK k) O) :
    (levAts L lv : sProp 𝕄) ⊢ MayWait (c : Thread nD τ) (csem k) () O :=
  MayOwe.of_cut (L := L) (lev := lv) (lvK k) (fun p hp => by rw [Finset.mem_singleton.mp hp, L_tc]; exact Finset.mem_singleton_self _)
    (fun g u hg => (h g u hg).1)
    (fun p hp => by rw [Finset.mem_singleton.mp hp]; exact (lv_at c k ()).le)
    (fun g u hg => (h g u hg).2)

omit [FloatOps F] in
/-- any other semaphore, while everything owed is above level 0. -/
theorem mayWait_stage (c : Dev nD) (sm : SemLoc sig) (hs : kind sm = none) {O : CellTallies nD τ sig Unit} (h : Above 0 O) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => (h g u hg).1)
    (fun p hp => by rw [Finset.mem_singleton.mp hp]; unfold lv; rw [hs])
    (fun g u hg => (h g u hg).2)

/-! ## The invariants -/

/-- Every semaphore's invariant under its name, and that each has reached round 0. -/
def recs (K : Dev nD × CK → ℕ) : sProp 𝕄 :=
  iprop((bigSep Finset.univ fun ck : Dev nD × CK => cellInv ER (exRd m) (K ck) (kcell ck))
    ∗ bigSep Finset.univ fun ck : Dev nD × CK => reached ER (kcell ck) 0)

instance recs_persistent (K : Dev nD × CK → ℕ) : BI.Persistent (recs m K) := by unfold recs; infer_instance

theorem recs_inv (K : Dev nD × CK → ℕ) (ck : Dev nD × CK) : recs m K ⊢ cellInv ER (exRd m) (K ck) (kcell ck) := by
  unfold recs
  iintro ⟨H, -⟩
  iapply (show (bigSep Finset.univ fun ck : Dev nD × CK => (cellInv ER (exRd m) (K ck) (kcell ck) : sProp 𝕄)) ⊢ cellInv ER (exRd m) (K ck) (kcell ck) from
    bigSep_elim (Finset.mem_univ ck))
  iexact H
theorem recs_reached (K : Dev nD × CK → ℕ) (ck : Dev nD × CK) : recs m K ⊢ reached ER (kcell ck) 0 := by
  unfold recs
  iintro ⟨-, H⟩
  iapply (show (bigSep Finset.univ fun ck : Dev nD × CK => (reached ER (kcell ck) 0 : sProp 𝕄)) ⊢ reached ER (kcell ck) 0 from
    bigSep_elim (Finset.mem_univ ck))
  iexact H

/-- What device `c` owes, whatever it has waited for. -/
def ow (c : Dev nD) (O : CellTallies nD τ sig Unit) : sProp 𝕄 := iprop(∃ W : Waits sig Unit, owes (c : Thread nD τ) O W)

end Cert.KernelIdealProof

end
-- ==== Proof.KernelIdealSteps.lean ====
/-
# The steps of the exchange

One theorem per kind of step: what a device holds before it, and what it holds at whatever the program goes on with.
-/
module

public import proofs.«01_k».proof.Proof.KernelIdealProtocol

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The program's blocks and semaphores by partner -/

theorem xM_of {j : Fin 4} {off : Fin 2 → ℕ} (h : off = ![1024 * j.val, 0]) (inb : ∀ a, off a + S1024x1024.size a ≤ S4096x1024.size a) :
    xW.slice (Rect.unit (s := S4096x1024) off S1024x1024.size inb) (fun _ => rfl) = xM j := by subst h; rfl
theorem cM_of {j : Fin 4} {off : Fin 3 → ℕ} (h : off = ![j.val, 0, 0]) (inb : ∀ a, off a + S1x1024x1024.size a ≤ S4x1024x1024.size a) :
    (cW.slice (Rect.unit (s := S4x1024x1024) off S1x1024x1024.size inb) (fun _ => rfl)).squeeze S1024x1024 squeezes_S1x1024x1024_S1024x1024 = cM j := by
  subst h; rfl
theorem rM_of {j : Fin 4} {off : Fin 3 → ℕ} (h : off = ![j.val, 0, 0]) (inb : ∀ a, off a + S1x8x128.size a ≤ S4x8x128.size a) :
    (rW.slice (Rect.unit (s := S4x8x128) off S1x8x128.size inb) (fun _ => rfl)).squeeze S8x128 squeezes_S1x8x128_S8x128 = rM j := by
  subst h; rfl

/-- The four arrays of semaphores. -/
def semA : Fin 4 → DmaSems sig S4
  | 0 => cc0_scratch3
  | 1 => cc0_scratch4
  | 2 => cc0_scratch8
  | 3 => cc0_scratch9

theorem sem_of (q : Fin 4) {j : Fin 4} {off : Fin 1 → ℕ} (h : off = ![j.val]) (inb : ∀ a, off a + S1.size a ≤ S4.size a) :
    (((semA q).slice (Rect.unit (s := S4) off S1.size inb)).squeeze S_ squeezes_S1_S_).sem = dsem q j := by
  subst h
  revert q j
  decide

theorem dut_peer {c j : Dev nD} {q : Fin 4} (h : j ≠ c) : dut c (.inr (q, j)) = {0} := if_neg h

/-! ## The steps -/

variable (K : Dev nD × CK → ℕ) {α : Type}

section Steps
variable (c j : Dev nD) {P : Prop} [Decidable P] (hP : P ↔ j ≠ c)
  {k : Prog (TpuEff nD τ sig (Elt F) Λ₀ .tc) α}

include hP in
/-- The entry signal to device `j`, unless it is the device itself: the slots that `j` will write go with it. -/
theorem sig_step {Q : α → sProp 𝕄} {n : P → Dev nD} (hn : ∀ h, n h = j) {O₁ : CellTallies nD τ sig Unit} (O : CellTallies nD τ sig Unit)
    (hO : O₁ = O + tb c j) :
    iprop(recs m K ∗ ow c O₁ ∗ peer c j (dutyTok ER (barCell j) 0 c) ∗ peer c j (barPay j c))
      ⊢ iprop((ow c O -∗ wp frame (wpE (defs₀ (F := F)) 𝒱₀ (c : Thread nD τ) none) Set.univ k Q)
        -∗ wp frame (wpE (defs₀ (F := F)) 𝒱₀ (c : Thread nD τ) none) Set.univ
            (if h : P then (semSignalWord (n h) barS 1#32 >>= fun _ => k) else k) Q) := by
  by_cases h : P
  · have hj : j ≠ c := hP.mp h
    rw [dif_pos h, hn h, peer_ne hj, peer_ne hj, hO, tb, if_neg hj]
    simp only [semSignalWord, Prog.bind_op, Prog.bind_ret]
    unfold ow
    iintro ⟨#Hr, ⟨%W, HO⟩, Ht, Hp⟩ Hk
    iapply (Rounds.wp_signal 𝒱₀ ER (exRd m) (c : Thread nD τ) none (dst := (j : Thread nD τ)) (κ := K (j, .inl 0)) (r := 0)
        (d := c) (by
          show c ∈ (exRd (F := F) m).duties (kcell (j, .inl 0)) 0
          rw [duties_at m j (.inl 0)]; exact Finset.mem_erase.mpr ⟨hj.symm, Finset.mem_univ _⟩)
        ((amount_at m j (.inl 0) 0 c).trans (by decide)) () O rfl)
      $$ [HO Ht Hp]
    · isplitr; · iapply (recs_inv m K (j, .inl 0)); iexact Hr
      isplitl [HO]; · iexact HO
      isplitl [Ht]; · iexact Ht
      isplitl [Hp]
      · rw [show (exRd (F := F) m).payload ((j : Thread nD τ), .reg barS) 0 c = barPay j c from payload_at m j (.inl 0) 0 c]; iexact Hp
      iapply (recs_reached m K (j, .inl 0)); iexact Hr
    iintro HO
    iapply Hk
    iexists W; iexact HO
  · have hj : j = c := by by_contra hc; exact h (hP.mpr hc)
    rw [dif_neg h, hO, tb, if_pos hj, add_zero]
    iintro ⟨-, HO, -, -⟩ Hk
    iapply Hk; iexact HO

/-- The wait for the other devices' entry signals: their slots come with it, and the barrier's counter is at zero again. -/
theorem bar_wait {Q : α → sProp 𝕄} :
    iprop(recs m K ∗ levAts L lv ∗ ow c (owR c 4) ∗ cred (tallyAt (barCell c) () 3) ∗ atPos ER (barCell c) 0 ∅ 0)
      ⊢ iprop(((ow c (owR c 4) ∗ semVal (barCell c) 0 ∗ bigSep Finset.univ fun j => peer c j (barPay c j))
          -∗ wp frame (wpE (defs₀ (F := F)) 𝒱₀ (c : Thread nD τ) none) Set.univ k Q)
        -∗ wp frame (wpE (defs₀ (F := F)) 𝒱₀ (c : Thread nD τ) none) Set.univ (semWaitWord barS 3#32 >>= fun _ => k) Q) := by
  simp only [semWaitWord, Prog.bind_op, Prog.bind_ret]
  unfold ow
  iintro ⟨#Hr, #Hl, ⟨%W, HO⟩, Hc, Ha⟩ Hk
  iapply (Rounds.wp_wait_rest_token 𝒱₀ ER (exRd m) (c : Thread nD τ) none (κ := K (c, .inl 0))
      (wpE_semWait_eq 𝒱₀ (c : Thread nD τ) none Set.univ) (Set.mem_univ _) () (O := owR c 4) (W := W) (R := 0) (m := 0) (T := ∅)
      (by
        show 0 + 3 = (exRd (F := F) m).expect (kcell (c, .inl 0)) 0
        rw [expect_at m c (.inl 0)]; revert c; decide)) $$ [Hc HO Ha]
  · isplitr; · iapply (recs_inv m K (c, .inl 0)); iexact Hr
    isplitl [Hc]; · iexact Hc
    isplitl [HO]; · iexact HO
    isplitr; · iapply (mayWait_at c (.inl 0) (above_owR c 4)); iexact Hl
    iexact Ha
  iintro ⟨HO, Ha, -, Hp⟩
  ihave Hp := (Entails.of_eq (show bigSep ((exRd (F := F) m).duties ((c : Thread nD τ), .reg barS) 0 \ ∅)
      (fun d => (exRd (F := F) m).payload ((c : Thread nD τ), .reg barS) 0 d) = bigSep Finset.univ fun j => peer c j (barPay c j) from
    (rest_at m c (.inl 0)).trans (bigSep_others c (fun d => barPay c d)))) $$ Hp
  imod (Rounds.cell_close ER (exRd m) (Set.mem_univ (K (c, .inl 0))) (fun h => h) (R := 0 + 1) (duties_later m (barCell c))) $$ [Ha] with Hz
  · isplitr; · iapply (recs_inv m K (c, .inl 0)); iexact Hr
    iexact Ha
  iapply Hk
  isplitl [HO]; · iexists _; iexact HO
  isplitl [Hz]; · iexact Hz
  iexact Hp

/-- The start of the local copy of the device's own block. -/
theorem copy_step {Q : α → sProp 𝕄} {src : Memref sig .tc .hbm S1024x1024 .f32} (hs : src = xM c) {dst : Memref sig .tc .vmem S1024x1024 .f32} (hd : dst = cM c)
    {h1 : src.view.WordExact} {h2 : (DmaTarget.here (nD := nD) (τ := τ) (p := .tc) dst).view.WordExact}
    {h3 : DmaTarget.Typed (nD := nD) (τ := τ) (p := .tc) .hbm (.dma copyS) (.here dst)} (f : S4x1024x1024.Idx → Elt F .f32) :
    iprop(recs m K ∗ xPts m c c ∗ cPts c c f ∗ dutyTok ER (copyCell c) 0 0)
      ⊢ iprop((cred (tallyAt (copyCell c) () Nx) -∗ wp frame (wpE (defs₀ (F := F)) 𝒱₀ (c : Thread nD τ) none) Set.univ k Q)
        -∗ wp frame (wpE (defs₀ (F := F)) 𝒱₀ (c : Thread nD τ) none) Set.univ
            (Prog.lift (.enqueueDma src (.here dst) (.dma copyS) h1 h2 h3) >>= fun _ => k) Q) := by
  subst hs hd
  simp only [Prog.lift, Prog.bind_op, Prog.bind_ret]
  unfold xPts cPts
  iintro ⟨#Hr, Hx, Hc, Ht⟩ Hk
  iapply (Rounds.wp_copy_pointsTo 𝒱₀ ER (exRd m) (c : Thread nD τ) none (κ := K (c, .inl 1)) (r := 0) (d := 0)
      (by rw [duties_at m c (.inl 1)]; exact Finset.mem_singleton_self _) () Nx (by unfold Nx; rfl)
      (amount_at m c (.inl 1) 0 0)
      (by
        show _ ⊢ (exRd (F := F) m).payload (kcell (c, .inl 1)) 0 0
        rw [payload_at m c (.inl 1)]
        exact Laws.sep_mono (Entails.of_eq (by unfold cPts; exact pointsTo_congr (landed_x m c c f))) (Entails.refl _)))
    $$ [Hx Hc Ht]
  · isplitr; · iapply (recs_inv m K (c, .inl 1)); iexact Hr
    isplitl [Hx]; · iexact Hx
    isplitl [Hc]; · iexact Hc
    isplitl [Ht]; · iexact Ht
    iapply (recs_reached m K (c, .inl 1)); iexact Hr
  iexact Hk

/-- The wait for it. -/
theorem copy_wait {Q : α → sProp 𝕄} {src : Memref sig .tc .hbm S1024x1024 .f32} {dst : Memref sig .tc .vmem S1024x1024 .f32} (hd : dst = cM c)
    {h1 : src.view.WordExact} {h2 : dst.view.WordExact} {O : CellTallies nD τ sig Unit} (hO : Above 0 O) :
    iprop(recs m K ∗ levAts L lv ∗ ow c O ∗ cred (tallyAt (copyCell c) () Nx) ∗ atPos ER (copyCell c) 0 ∅ 0)
      ⊢ iprop(((ow c O ∗ semVal (copyCell c) 0 ∗ cPts c c (commC m c) ∗ xPts m c c)
          -∗ wp frame (wpE (defs₀ (F := F)) 𝒱₀ (c : Thread nD τ) none) Set.univ k Q)
        -∗ wp frame (wpE (defs₀ (F := F)) 𝒱₀ (c : Thread nD τ) none) Set.univ
            (Prog.lift (.waitDma2 copyS src dst h1 h2) >>= fun _ => k) Q) := by
  subst hd
  simp only [Prog.lift, Prog.bind_op, Prog.bind_ret]
  unfold ow
  iintro ⟨#Hr, #Hl, ⟨%W, HO⟩, Hc, Ha⟩ Hk
  iapply (Rounds.wp_wait_rest_token 𝒱₀ ER (exRd m) (c : Thread nD τ) none (κ := K (c, .inl 1)) (k' := Nx)
      (fun X => (wpE_waitDma2_eq 𝒱₀ (c : Thread nD τ) none Set.univ X).trans (by unfold Nx; rfl))
      (Set.mem_univ _) () (O := O) (W := W) (R := 0) (m := 0) (T := ∅)
      (by
        show 0 + Nx = (exRd (F := F) m).expect (kcell (c, .inl 1)) 0
        rw [expect_at m c (.inl 1), Nat.zero_add]; exact (Nat.one_mul _).symm)) $$ [Hc HO Ha]
  · isplitr; · iapply (recs_inv m K (c, .inl 1)); iexact Hr
    isplitl [Hc]; · iexact Hc
    isplitl [HO]; · iexact HO
    isplitr; · iapply (mayWait_at c (.inl 1) hO); iexact Hl
    iexact Ha
  iintro ⟨HO, Ha, -, Hp⟩
  ihave Hp := (Entails.of_eq (show bigSep ((exRd (F := F) m).duties ((c : Thread nD τ), .dma copyS) 0 \ ∅)
      (fun d => (exRd (F := F) m).payload ((c : Thread nD τ), .dma copyS) 0 d) = iprop(cPts c c (commC m c) ∗ xPts m c c) from
    (rest_at m c (.inl 1)).trans bigSep_singleton)) $$ Hp
  imod (Rounds.cell_close ER (exRd m) (Set.mem_univ (K (c, .inl 1))) (fun h => h) (R := 0 + 1) (duties_later m (copyCell c))) $$ [Ha] with Hz
  · isplitr; · iapply (recs_inv m K (c, .inl 1)); iexact Hr
    iexact Ha
  iapply Hk
  isplitl [HO]; · iexists _; iexact HO
  isplitl [Hz]; · iexact Hz
  iexact Hp

include hP in
/-- The start of the transfer of row block `j` of `x` to device `j`, unless it is the device itself. -/
theorem send_step {Q : α → sProp 𝕄} {n : P → Dev nD} (hn : ∀ h, n h = j) {src : P → Memref sig .tc .hbm S1024x1024 .f32} (hs : ∀ h, src h = xM j)
    {dst : P → Memref sig .tc .vmem S1024x1024 .f32} (hd : ∀ h, dst h = cM c)
    {sS sR : P → DmaSem sig} (hS : ∀ h, sS h = dsem 0 j) (hR : ∀ h, sR h = dsem 1 c)
    {h0 : ∀ h, (dst h).view.ref.isScScratch = false}
    {h1 : ∀ h, (src h).view.WordExact}
    {h2 : ∀ h, (DmaTarget.remote (p := .tc) (Dev.tc (n h) : Thread nD τ) (dst h) (.dma (sS h)) (h0 h)).view.WordExact}
    {h3 : ∀ h, DmaTarget.Typed (p := .tc) .hbm (.dma (sR h)) (.remote (Dev.tc (n h) : Thread nD τ) (dst h) (.dma (sS h)) (h0 h))}
    {O₁ : CellTallies nD τ sig Unit} (O : CellTallies nD τ sig Unit) (hO : O₁ = O + tr c j) :
    iprop(recs m K ∗ ow c O₁ ∗ peer c j (xPts m c j) ∗ peer c j (iprop(∃ f, cPts j c f)) ∗ peer c j (dutyTok ER (xCell 0 c j) 0 0)
        ∗ peer c j (dutyTok ER (xCell 1 j c) 0 0))
      ⊢ iprop(((ow c O ∗ peer c j (cred (tallyAt (xCell 0 c j) () Nx))) -∗ wp frame (wpE (defs₀ (F := F)) 𝒱₀ (c : Thread nD τ) none) Set.univ k Q)
        -∗ wp frame (wpE (defs₀ (F := F)) 𝒱₀ (c : Thread nD τ) none) Set.univ
            (if h : P then (Prog.lift (.enqueueDma (src h) (.remote (Dev.tc (n h)) (dst h) (.dma (sS h)) (h0 h)) (.dma (sR h)) (h1 h) (h2 h) (h3 h))
              >>= fun _ => k) else k) Q) := by
  by_cases h : P
  · have hj : j ≠ c := hP.mp h
    rw [dif_pos h, peer_ne hj, peer_ne hj, peer_ne hj, peer_ne hj, peer_ne hj, hO, tr, if_neg hj]
    generalize h0 h = g0, h1 h = g1, h2 h = g2, h3 h = g3
    have e1 := hn h; have e2 := hs h; have e3 := hd h; have e4 := hS h; have e5 := hR h
    generalize n h = n' at *
    generalize src h = src' at *
    generalize dst h = dst' at *
    generalize sS h = sS' at *
    generalize sR h = sR' at *
    subst e1 e2 e3 e4 e5
    simp only [Prog.lift, Prog.bind_op, Prog.bind_ret]
    unfold ow xPts cPts
    iintro ⟨#Hr, ⟨%W, HO⟩, Hx, ⟨%f, Hc⟩, Ht, Ht'⟩ Hk
    iapply (Rounds.wp_send_pointsTo 𝒱₀ ER (exRd m) (c : Thread nD τ) none (κ₁ := K (c, .inr (0, n'))) (κ₂ := K (n', .inr (1, c)))
        (r₁ := 0) (r₂ := 0) (d₁ := 0) (d₂ := 0) (fd := f)
        (by rw [duties_at m c (.inr (0, n'))]; rw [dut_peer hj]; exact Finset.mem_singleton_self _)
        (by rw [duties_at m n' (.inr (1, c))]; rw [dut_peer (Ne.symm hj)]; exact Finset.mem_singleton_self _)
        () () Nx (by unfold Nx; rfl) (amount_at m c (.inr (0, n')) 0 0) (amount_at m n' (.inr (1, c)) 0 0) O rfl (W := W)
        (by rw [payload_at m c (.inr (0, n'))]; exact Entails.refl _)
        (by rw [payload_at m n' (.inr (1, c))]; exact Entails.of_eq (by unfold pay payQ cPts; exact pointsTo_congr (landed_x m n' c f))))
      $$ [Hx Hc HO Ht Ht']
    · isplitr; · iapply (recs_inv m K (c, .inr (0, n'))); iexact Hr
      isplitr; · iapply (recs_inv m K (n', .inr (1, c))); iexact Hr
      isplitl [Hx]; · iexact Hx
      isplitl [Hc]; · iexact Hc
      isplitl [HO]; · iexact HO
      isplitl [Ht]; · iexact Ht
      isplitr; · iapply (recs_reached m K (c, .inr (0, n'))); iexact Hr
      isplitl [Ht']; · iexact Ht'
      iapply (recs_reached m K (n', .inr (1, c))); iexact Hr
    iintro ⟨Hc, HO⟩
    iapply Hk
    isplitl [HO]; · iexists W; iexact HO
    iexact Hc
  · have hj : j = c := by by_contra hc; exact h (hP.mpr hc)
    rw [dif_neg h, hO, tr, if_pos hj, add_zero, hj]
    simp only [peer_self]
    iintro ⟨-, HO, -⟩ Hk
    iapply Hk
    isplitl [HO]; · iexact HO
    iempintro

include hP in
/-- The start of the transfer of the device's block of maxima to device `j`, unless it is the device itself. -/
theorem asend_step {Q : α → sProp 𝕄} {n : P → Dev nD} (hn : ∀ h, n h = j)
    {dst : P → Memref sig .tc .vmem S8x128 .f32} (hd : ∀ h, dst h = rM c)
    {sS sR : P → DmaSem sig} (hS : ∀ h, sS h = dsem 2 j) (hR : ∀ h, sR h = dsem 3 c)
    {h0 : ∀ h, (dst h).view.ref.isScScratch = false}
    {h1 : ∀ h : P, sW.view.WordExact}
    {h2 : ∀ h, (DmaTarget.remote (p := .tc) (Dev.tc (n h) : Thread nD τ) (dst h) (.dma (sS h)) (h0 h)).view.WordExact}
    {h3 : ∀ h, DmaTarget.Typed (p := .tc) .vmem (.dma (sR h)) (.remote (Dev.tc (n h) : Thread nD τ) (dst h) (.dma (sS h)) (h0 h))}
    {O₁ : CellTallies nD τ sig Unit} (O : CellTallies nD τ sig Unit) (hO : O₁ = O + ta c j) :
    iprop(recs m K ∗ ow c O₁ ∗ peer c j (aPts m c j) ∗ peer c j (iprop(∃ f, rPts j c f)) ∗ peer c j (dutyTok ER (xCell 2 c j) 0 0)
        ∗ peer c j (dutyTok ER (xCell 3 j c) 0 0))
      ⊢ iprop(((ow c O ∗ peer c j (cred (tallyAt (xCell 2 c j) () Na))) -∗ wp frame (wpE (defs₀ (F := F)) 𝒱₀ (c : Thread nD τ) none) Set.univ k Q)
        -∗ wp frame (wpE (defs₀ (F := F)) 𝒱₀ (c : Thread nD τ) none) Set.univ
            (if h : P then (Prog.lift (.enqueueDma sW (.remote (Dev.tc (n h)) (dst h) (.dma (sS h)) (h0 h)) (.dma (sR h)) (h1 h) (h2 h) (h3 h))
              >>= fun _ => k) else k) Q) := by
  by_cases h : P
  · have hj : j ≠ c := hP.mp h
    rw [dif_pos h, peer_ne hj, peer_ne hj, peer_ne hj, peer_ne hj, peer_ne hj, hO, ta, if_neg hj]
    generalize h0 h = g0, h2 h = g2, h3 h = g3
    have e1 := hn h; have e3 := hd h; have e4 := hS h; have e5 := hR h
    generalize n h = n' at *
    generalize dst h = dst' at *
    generalize sS h = sS' at *
    generalize sR h = sR' at *
    subst e1 e3 e4 e5
    simp only [Prog.lift, Prog.bind_op, Prog.bind_ret]
    unfold ow aPts rPts
    iintro ⟨#Hr, ⟨%W, HO⟩, Hx, ⟨%f, Hc⟩, Ht, Ht'⟩ Hk
    iapply (Rounds.wp_send_pointsTo 𝒱₀ ER (exRd m) (c : Thread nD τ) none (κ₁ := K (c, .inr (2, n'))) (κ₂ := K (n', .inr (3, c)))
        (r₁ := 0) (r₂ := 0) (d₁ := 0) (d₂ := 0) (fd := f)
        (by rw [duties_at m c (.inr (2, n'))]; rw [dut_peer hj]; exact Finset.mem_singleton_self _)
        (by rw [duties_at m n' (.inr (3, c))]; rw [dut_peer (Ne.symm hj)]; exact Finset.mem_singleton_self _)
        () () Na (by unfold Na; rfl) (amount_at m c (.inr (2, n')) 0 0) (amount_at m n' (.inr (3, c)) 0 0) O rfl (W := W)
        (by rw [payload_at m c (.inr (2, n'))]; exact Entails.refl _)
        (by rw [payload_at m n' (.inr (3, c))]; exact Entails.of_eq (by unfold pay payQ rPts; exact pointsTo_congr (landed_a m c f))))
      $$ [Hx Hc HO Ht Ht']
    · isplitr; · iapply (recs_inv m K (c, .inr (2, n'))); iexact Hr
      isplitr; · iapply (recs_inv m K (n', .inr (3, c))); iexact Hr
      isplitl [Hx]; · iexact Hx
      isplitl [Hc]; · iexact Hc
      isplitl [HO]; · iexact HO
      isplitl [Ht]; · iexact Ht
      isplitr; · iapply (recs_reached m K (c, .inr (2, n'))); iexact Hr
      isplitl [Ht']; · iexact Ht'
      iapply (recs_reached m K (n', .inr (3, c))); iexact Hr
    iintro ⟨Hc, HO⟩
    iapply Hk
    isplitl [HO]; · iexists W; iexact HO
    iexact Hc
  · have hj : j = c := by by_contra hc; exact h (hP.mpr hc)
    rw [dif_neg h, hO, ta, if_pos hj, add_zero, hj]
    simp only [peer_self]
    iintro ⟨-, HO, -⟩ Hk
    iapply Hk
    isplitl [HO]; · iexact HO
    iempintro

include hP in
/-- The wait on the semaphore of family `q` for partner `j`, unless it is the device itself: what its payment hands over,
    and in either case its counter at zero. -/
theorem wait_step {Q : α → sProp 𝕄} (q : Fin 4) {s : P → DmaSem sig} (hs : ∀ h, s h = dsem q j) {sp sp' : Space} {sh : Shape}
    {src : P → Memref sig .tc sp sh .f32} {dst : P → Memref sig .tc sp' sh .f32} (hN : ∀ h, (dst h).view.dmaCredit = amtQ q)
    {h1 : ∀ h, (src h).view.WordExact} {h2 : ∀ h, (dst h).view.WordExact}
    {O : CellTallies nD τ sig Unit} (hO : Above (lvK (.inr (q, j))) O) :
    iprop(recs m K ∗ levAts L lv ∗ ow c O ∗ peer c j (cred (tallyAt (xCell q c j) () (amtQ q))) ∗ atPos ER (xCell q c j) 0 ∅ 0)
      ⊢ iprop(((ow c O ∗ semVal (xCell q c j) 0 ∗ peer c j (payQ m c j q))
          -∗ wp frame (wpE (defs₀ (F := F)) 𝒱₀ (c : Thread nD τ) none) Set.univ k Q)
        -∗ wp frame (wpE (defs₀ (F := F)) 𝒱₀ (c : Thread nD τ) none) Set.univ
            (if h : P then (Prog.lift (.waitDma2 (s h) (src h) (dst h) (h1 h) (h2 h)) >>= fun _ => k) else k) Q) := by
  by_cases h : P
  · have hj : j ≠ c := hP.mp h
    rw [dif_pos h, peer_ne hj, peer_ne hj, hs h]
    simp only [Prog.lift, Prog.bind_op, Prog.bind_ret]
    unfold ow
    iintro ⟨#Hr, #Hl, ⟨%W, HO⟩, Hc, Ha⟩ Hk
    iapply (Rounds.wp_wait_rest_token 𝒱₀ ER (exRd m) (c : Thread nD τ) none (κ := K (c, .inr (q, j))) (k' := amtQ q)
        (fun X => (wpE_waitDma2_eq 𝒱₀ (c : Thread nD τ) none Set.univ X).trans (by rw [hN h]))
        (Set.mem_univ _) () (O := O) (W := W) (R := 0) (m := 0) (T := ∅)
        (by
          show 0 + amtQ q = (exRd m).expect (kcell (c, .inr (q, j))) 0
          rw [expect_at m c (.inr (q, j)), Nat.zero_add, dut_peer hj]; exact (Nat.one_mul _).symm)) $$ [Hc HO Ha]
    · isplitr; · iapply (recs_inv m K (c, .inr (q, j))); iexact Hr
      isplitl [Hc]; · iexact Hc
      isplitl [HO]; · iexact HO
      isplitr; · iapply (mayWait_at c (.inr (q, j)) hO); iexact Hl
      iexact Ha
    iintro ⟨HO, Ha, -, Hp⟩
    ihave Hp := (Entails.of_eq (show bigSep ((exRd (F := F) m).duties ((c : Thread nD τ), .dma (dsem q j)) 0 \ ∅)
        (fun d => (exRd (F := F) m).payload ((c : Thread nD τ), .dma (dsem q j)) 0 d) = payQ m c j q from
      (rest_at m c (.inr (q, j))).trans (by rw [dut_peer hj]; exact bigSep_singleton))) $$ Hp
    imod (Rounds.cell_close ER (exRd m) (Set.mem_univ (K (c, .inr (q, j)))) (fun h => h) (R := 0 + 1) (duties_later m (xCell q c j))) $$ [Ha] with Hz
    · isplitr; · iapply (recs_inv m K (c, .inr (q, j))); iexact Hr
      iexact Ha
    iapply Hk
    isplitl [HO]; · iexists _; iexact HO
    isplitl [Hz]; · iexact Hz
    iexact Hp
  · have hj : j = c := by by_contra hc; exact h (hP.mpr hc)
    subst hj
    rw [dif_neg h, peer_self, peer_self]
    iintro ⟨#Hr, -, HO, -, Ha⟩ Hk
    imod (Rounds.cell_close ER (exRd m) (Set.mem_univ (K (j, .inr (q, j)))) (fun h => h) (R := 0) (duties_self m j q)) $$ [Ha] with Hz
    · isplitr; · iapply (recs_inv m K (j, .inr (q, j))); iexact Hr
      iexact Ha
    iapply Hk
    isplitl [HO]; · iexact HO
    isplitl [Hz]; · iexact Hz
    iempintro

end Steps

end Cert.KernelIdealProof

end
-- ==== Proof.KernelIdealExchange.lean ====
/-
# The two exchanges

The exchange of the blocks of `x` at the first grid point, and that of the maxima once the product is complete.
-/
module

public import proofs.«01_k».proof.Proof.KernelIdealSteps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The steps as the program writes them -/

section At
variable (K : Dev nD × CK → ℕ) {α : Type} (c j : Dev nD) {P : Prop} [Decidable P] (hP : P ↔ j ≠ c)
  {k : Prog (TpuEff nD τ sig (Elt F) Λ₀ .tc) α}

include hP in
theorem sig_at {Q : α → sProp 𝕄} {n : ℕ} (hn : n = j.val) {hlt : P → n < nD} {O₁ : CellTallies nD τ sig Unit} (O : CellTallies nD τ sig Unit)
    (hO : O₁ = O + tb c j) :
    iprop(recs m K ∗ ow c O₁ ∗ peer c j (dutyTok ER (barCell j) 0 c) ∗ peer c j (barPay j c))
      ⊢ iprop((ow c O -∗ wp frame (wpE (defs₀ (F := F)) 𝒱₀ (c : Thread nD τ) none) Set.univ k Q)
        -∗ wp frame (wpE (defs₀ (F := F)) 𝒱₀ (c : Thread nD τ) none) Set.univ
            (if h : P then (semSignalWord (⟨n, hlt h⟩ : Dev nD) barS 1#32 >>= fun _ => k) else k) Q) :=
  sig_step m K c j hP (fun _ => Fin.ext hn) O hO

include hP in
theorem send_at {Q : α → sProp 𝕄} {n : ℕ} (hn : n = j.val) {hlt : P → n < nD} {ox : Fin 2 → ℕ} (hox : ox = ![1024 * j.val, 0]) {oc : Fin 3 → ℕ} (hoc : oc = ![c.val, 0, 0])
    {oS oR : Fin 1 → ℕ} (hoS : oS = ![j.val]) (hoR : oR = ![c.val])
    {inx : ∀ a, ox a + S1024x1024.size a ≤ S4096x1024.size a} {inc : P → ∀ a, oc a + S1x1024x1024.size a ≤ S4x1024x1024.size a}
    {inS : ∀ a, oS a + S1.size a ≤ S4.size a} {inR : P → ∀ a, oR a + S1.size a ≤ S4.size a}
    {h0 : ∀ h : P, _} {h1 : ∀ h : P, _} {h2 : ∀ h : P, _} {h3 : ∀ h : P, _}
    {O₁ : CellTallies nD τ sig Unit} (O : CellTallies nD τ sig Unit) (hO : O₁ = O + tr c j) :
    iprop(recs m K ∗ ow c O₁ ∗ peer c j (xPts m c j) ∗ peer c j (iprop(∃ f, cPts j c f)) ∗ peer c j (dutyTok ER (xCell 0 c j) 0 0)
        ∗ peer c j (dutyTok ER (xCell 1 j c) 0 0))
      ⊢ iprop(((ow c O ∗ peer c j (cred (tallyAt (xCell 0 c j) () Nx))) -∗ wp frame (wpE (defs₀ (F := F)) 𝒱₀ (c : Thread nD τ) none) Set.univ k Q)
        -∗ wp frame (wpE (defs₀ (F := F)) 𝒱₀ (c : Thread nD τ) none) Set.univ
            (if h : P then (Prog.lift (.enqueueDma (xW.slice (Rect.unit (s := S4096x1024) ox S1024x1024.size inx) (fun _ => rfl))
                (.remote (Dev.tc (⟨n, hlt h⟩ : Dev nD))
                  ((cW.slice (Rect.unit (s := S4x1024x1024) oc S1x1024x1024.size (inc h)) (fun _ => rfl)).squeeze S1024x1024 squeezes_S1x1024x1024_S1024x1024)
                  (.dma ((cc0_scratch3.slice (Rect.unit (s := S4) oS S1.size inS)).squeeze S_ squeezes_S1_S_).sem) (h0 h))
                (.dma ((cc0_scratch4.slice (Rect.unit (s := S4) oR S1.size (inR h))).squeeze S_ squeezes_S1_S_).sem) (h1 h) (h2 h) (h3 h))
              >>= fun _ => k) else k) Q) :=
  send_step m K c j hP (fun _ => Fin.ext hn) (fun _ => xM_of hox inx) (fun h => cM_of hoc (inc h)) (fun _ => sem_of 0 hoS inS)
    (fun h => sem_of 1 hoR (inR h)) O hO

include hP in
theorem asend_at {Q : α → sProp 𝕄} {n : ℕ} (hn : n = j.val) {hlt : P → n < nD} {oc : Fin 3 → ℕ} (hoc : oc = ![c.val, 0, 0])
    {oS oR : Fin 1 → ℕ} (hoS : oS = ![j.val]) (hoR : oR = ![c.val])
    {inc : P → ∀ a, oc a + S1x8x128.size a ≤ S4x8x128.size a}
    {inS : ∀ a, oS a + S1.size a ≤ S4.size a} {inR : P → ∀ a, oR a + S1.size a ≤ S4.size a}
    {h0 : ∀ h : P, _} {h1 : ∀ h : P, _} {h2 : ∀ h : P, _} {h3 : ∀ h : P, _}
    {O₁ : CellTallies nD τ sig Unit} (O : CellTallies nD τ sig Unit) (hO : O₁ = O + ta c j) :
    iprop(recs m K ∗ ow c O₁ ∗ peer c j (aPts m c j) ∗ peer c j (iprop(∃ f, rPts j c f)) ∗ peer c j (dutyTok ER (xCell 2 c j) 0 0)
        ∗ peer c j (dutyTok ER (xCell 3 j c) 0 0))
      ⊢ iprop(((ow c O ∗ peer c j (cred (tallyAt (xCell 2 c j) () Na))) -∗ wp frame (wpE (defs₀ (F := F)) 𝒱₀ (c : Thread nD τ) none) Set.univ k Q)
        -∗ wp frame (wpE (defs₀ (F := F)) 𝒱₀ (c : Thread nD τ) none) Set.univ
            (if h : P then (Prog.lift (.enqueueDma sW
                (.remote (Dev.tc (⟨n, hlt h⟩ : Dev nD))
                  ((rW.slice (Rect.unit (s := S4x8x128) oc S1x8x128.size (inc h)) (fun _ => rfl)).squeeze S8x128 squeezes_S1x8x128_S8x128)
                  (.dma ((cc0_scratch8.slice (Rect.unit (s := S4) oS S1.size inS)).squeeze S_ squeezes_S1_S_).sem) (h0 h))
                (.dma ((cc0_scratch9.slice (Rect.unit (s := S4) oR S1.size (inR h))).squeeze S_ squeezes_S1_S_).sem) (h1 h) (h2 h) (h3 h))
              >>= fun _ => k) else k) Q) :=
  asend_step m K c j hP (fun _ => Fin.ext hn) (fun h => rM_of hoc (inc h)) (fun _ => sem_of 2 hoS inS) (fun h => sem_of 3 hoR (inR h)) O hO

theorem credit_x (j : Fin 4) : (xM j).view.dmaCredit = Nx := by unfold Nx; rfl
theorem credit_c (j : Fin 4) : (cM j).view.dmaCredit = Nx := by unfold Nx; rfl
theorem credit_r (j : Fin 4) : (rM j).view.dmaCredit = Na := by unfold Na; rfl
theorem credit_s : sW.view.dmaCredit = Na := by unfold Na; rfl

/-- What a wait for partner `j` on a semaphore of family `q` starts from, and what it leaves. -/
def wPre (q : Fin 4) (O : CellTallies nD τ sig Unit) : sProp 𝕄 :=
  iprop(recs m K ∗ levAts L lv ∗ ow c O ∗ peer c j (cred (tallyAt (xCell q c j) () (amtQ q))) ∗ atPos ER (xCell q c j) 0 ∅ 0)
def wPost (q : Fin 4) (O : CellTallies nD τ sig Unit) : sProp 𝕄 :=
  iprop(ow c O ∗ semVal (xCell q c j) 0 ∗ peer c j (payQ m c j q))

include hP in
/-- The wait for partner `j`'s block of `x`; -/
theorem recv_at {Q : α → sProp 𝕄} {ox : Fin 2 → ℕ} {oc : Fin 3 → ℕ} (hoc : oc = ![j.val, 0, 0]) {oS : Fin 1 → ℕ} (hoS : oS = ![j.val])
    {inx : ∀ a, ox a + S1024x1024.size a ≤ S4096x1024.size a} {inc : ∀ a, oc a + S1x1024x1024.size a ≤ S4x1024x1024.size a}
    {inS : ∀ a, oS a + S1.size a ≤ S4.size a} {h1 : ∀ h : P, _} {h2 : ∀ h : P, _} {O : CellTallies nD τ sig Unit} (hO : Above 2 O) :
    wPre m K c j 1 O ⊢ iprop((wPost m c j 1 O -∗ wp frame (wpE (defs₀ (F := F)) 𝒱₀ (c : Thread nD τ) none) Set.univ k Q)
        -∗ wp frame (wpE (defs₀ (F := F)) 𝒱₀ (c : Thread nD τ) none) Set.univ
            (if h : P then (Prog.lift (.waitDma2 ((cc0_scratch4.slice (Rect.unit (s := S4) oS S1.size inS)).squeeze S_ squeezes_S1_S_).sem
                (xW.slice (Rect.unit (s := S4096x1024) ox S1024x1024.size inx) (fun _ => rfl))
                ((cW.slice (Rect.unit (s := S4x1024x1024) oc S1x1024x1024.size inc) (fun _ => rfl)).squeeze S1024x1024 squeezes_S1x1024x1024_S1024x1024)
                (h1 h) (h2 h)) >>= fun _ => k) else k) Q) :=
  wait_step m K c j hP 1 (fun _ => sem_of 1 hoS inS) (fun _ => by rw [cM_of hoc inc]; exact credit_c j) hO

include hP in
/-- the wait for the transfer to partner `j` to have left; -/
theorem sent_at {Q : α → sProp 𝕄} {ox : Fin 2 → ℕ} (hox : ox = ![1024 * j.val, 0]) {oc : Fin 3 → ℕ} {oS : Fin 1 → ℕ} (hoS : oS = ![j.val])
    {inx : ∀ a, ox a + S1024x1024.size a ≤ S4096x1024.size a} {inc : P → ∀ a, oc a + S1x1024x1024.size a ≤ S4x1024x1024.size a}
    {inS : ∀ a, oS a + S1.size a ≤ S4.size a} {h1 : ∀ h : P, _} {h2 : ∀ h : P, _} {O : CellTallies nD τ sig Unit} (hO : Above 0 O) :
    wPre m K c j 0 O ⊢ iprop((wPost m c j 0 O -∗ wp frame (wpE (defs₀ (F := F)) 𝒱₀ (c : Thread nD τ) none) Set.univ k Q)
        -∗ wp frame (wpE (defs₀ (F := F)) 𝒱₀ (c : Thread nD τ) none) Set.univ
            (if h : P then (Prog.lift (.waitDma2 ((cc0_scratch3.slice (Rect.unit (s := S4) oS S1.size inS)).squeeze S_ squeezes_S1_S_).sem
                ((cW.slice (Rect.unit (s := S4x1024x1024) oc S1x1024x1024.size (inc h)) (fun _ => rfl)).squeeze S1024x1024 squeezes_S1x1024x1024_S1024x1024)
                (xW.slice (Rect.unit (s := S4096x1024) ox S1024x1024.size inx) (fun _ => rfl))
                (h1 h) (h2 h)) >>= fun _ => k) else k) Q) :=
  wait_step m K c j hP 0 (fun _ => sem_of 0 hoS inS) (fun _ => by rw [xM_of hox inx]; exact credit_x j) hO

include hP in
/-- the wait for partner `j`'s block of maxima; -/
theorem arecv_at {Q : α → sProp 𝕄} {oc : Fin 3 → ℕ} (hoc : oc = ![j.val, 0, 0]) {oS : Fin 1 → ℕ} (hoS : oS = ![j.val])
    {inc : ∀ a, oc a + S1x8x128.size a ≤ S4x8x128.size a}
    {inS : ∀ a, oS a + S1.size a ≤ S4.size a} {h1 : ∀ h : P, _} {h2 : ∀ h : P, _} {O : CellTallies nD τ sig Unit} (hO : Above 3 O) :
    wPre m K c j 3 O ⊢ iprop((wPost m c j 3 O -∗ wp frame (wpE (defs₀ (F := F)) 𝒱₀ (c : Thread nD τ) none) Set.univ k Q)
        -∗ wp frame (wpE (defs₀ (F := F)) 𝒱₀ (c : Thread nD τ) none) Set.univ
            (if h : P then (Prog.lift (.waitDma2 ((cc0_scratch9.slice (Rect.unit (s := S4) oS S1.size inS)).squeeze S_ squeezes_S1_S_).sem
                sW ((rW.slice (Rect.unit (s := S4x8x128) oc S1x8x128.size inc) (fun _ => rfl)).squeeze S8x128 squeezes_S1x8x128_S8x128)
                (h1 h) (h2 h)) >>= fun _ => k) else k) Q) :=
  wait_step m K c j hP 3 (fun _ => sem_of 3 hoS inS) (fun _ => by rw [rM_of hoc inc]; exact credit_r j) hO

include hP in
/-- the wait for the block of maxima sent to partner `j` to have left. -/
theorem asent_at {Q : α → sProp 𝕄} {oc : Fin 3 → ℕ} {oS : Fin 1 → ℕ} (hoS : oS = ![j.val])
    {inc : P → ∀ a, oc a + S1x8x128.size a ≤ S4x8x128.size a}
    {inS : ∀ a, oS a + S1.size a ≤ S4.size a} {h1 : ∀ h : P, _} {h2 : ∀ h : P, _} {O : CellTallies nD τ sig Unit} (hO : Above 0 O) :
    wPre m K c j 2 O ⊢ iprop((wPost m c j 2 O -∗ wp frame (wpE (defs₀ (F := F)) 𝒱₀ (c : Thread nD τ) none) Set.univ k Q)
        -∗ wp frame (wpE (defs₀ (F := F)) 𝒱₀ (c : Thread nD τ) none) Set.univ
            (if h : P then (Prog.lift (.waitDma2 ((cc0_scratch8.slice (Rect.unit (s := S4) oS S1.size inS)).squeeze S_ squeezes_S1_S_).sem
                ((rW.slice (Rect.unit (s := S4x8x128) oc S1x8x128.size (inc h)) (fun _ => rfl)).squeeze S8x128 squeezes_S1x8x128_S8x128) sW
                (h1 h) (h2 h)) >>= fun _ => k) else k) Q) :=
  wait_step m K c j hP 2 (fun _ => sem_of 2 hoS inS) (fun _ => credit_s) hO

end At

/-! ## The exchange of the blocks of `x` -/

/-- A device's place, as the program computes it. -/
abbrev v2w (c : Dev nD) : BitVec 32 := Scalar.remsi (Scalar.divsi (Dev.word c) 1#32) 4#32

/-- The first part of the body, on device `c`, going on with `k`. -/
def stageA (i : grid0.Coords) (c : Dev nD) (arg3 : Memref sig .tc .vmem S1024x256 .f32) (harg3 : arg3.IsWhole)
    (arg4 : Memref sig .tc .vmem S1024x256 .f32) (harg4 : arg4.IsWhole) (k : Prog (TpuEff nD τ sig (Elt F) Λ₀ .tc) PUnit) :
    Prog (TpuEff nD τ sig (Elt F) Λ₀ .tc) PUnit := do
  if k0_h1 : k0_cond1 i = 1#1 then do
    k0_part1 i xW (Memref.isWhole_whole _) arg3 harg3 arg4 harg4 cW (Memref.isWhole_whole _) yW (Memref.isWhole_whole _) bW (Memref.isWhole_whole _) cc0_scratch3 cc0_scratch4 cc0_scratch5 sW (Memref.isWhole_whole _) rW (Memref.isWhole_whole _) cc0_scratch8 cc0_scratch9 mW (Memref.isWhole_whole _) c (v2w c) k0_h1
    if k0_h9 : k0_cond9 c = 1#1 then do
      let v72 : DmaSems sig S1 := cc0_scratch3.slice (Rect.unit (s := S4) ![3] S1.size inb_S4_S1_3)
      let v73 : DmaSems sig S_ := v72.squeeze S_ squeezes_S1_S_
      let v74 : DmaSems sig S1 := cc0_scratch4.slice (Rect.unit (s := S4) (k0_off9 c) S1.size (k0_off9_inb i c k0_h1 k0_h9))
      let v75 : DmaSems sig S_ := v74.squeeze S_ squeezes_S1_S_
      let v76 : Memref sig .tc .vmem S1x1024x1024 .f32 := cW.slice (Rect.unit (s := S4x1024x1024) (k0_off10 c) S1x1024x1024.size (k0_off10_inb i c k0_h1 k0_h9)) (fun _ => rfl)
      let v77 : Memref sig .tc .vmem S1024x1024 .f32 := v76.squeeze S1024x1024 squeezes_S1x1024x1024_S1024x1024
      let v78 : Memref sig .tc .hbm S1024x1024 .f32 := xW.slice (Rect.unit (s := S4096x1024) ![3072, 0] S1024x1024.size inb_S4096x1024_S1024x1024_3072_0) (fun _ => rfl)
      Prog.lift (.enqueueDma v78 (.remote (Dev.tc (⟨k0_dev8, k0_dev8_lt i c k0_h1 k0_h9⟩ : Dev nD)) v77 (.dma v73.sem)) (.dma v75.sem) (View.wordExact_bits rfl) ((View.wordExact_bits rfl).reshape _ _) ⟨⟨rfl, Or.inl rfl⟩, trivial⟩)
      pure ⟨⟩
    else do
      pure ⟨⟩
    let v43 : Memref sig .tc .vmem S1x1024x1024 .f32 := cW.slice (Rect.unit (s := S4x1024x1024) (k0_off1 c) S1x1024x1024.size (k0_off1_inb i c k0_h1)) (fun _ => rfl)
    let v44 : Memref sig .tc .vmem S1024x1024 .f32 := v43.squeeze S1024x1024 squeezes_S1x1024x1024_S1024x1024
    let v45 : Memref sig .tc .hbm S1024x1024 .f32 := xW.slice (Rect.unit (s := S4096x1024) (k0_off2 c) S1024x1024.size (k0_off2_inb i c k0_h1)) (fun _ => rfl)
    Prog.lift (.waitDma2 cc0_scratch5.sem v45 v44 (View.wordExact_bits rfl) ((View.wordExact_bits rfl).reshape _ _))
    let v46 : BitVec 1 := Scalar.cmpi .ne (v2w c) 0#32
    let v47 : BitVec 32 := Scalar.extui v46
    let v48 : BitVec 1 := Scalar.cmpi .ne v47 0#32
    if k0_h10 : v48 = 1#1 then do
      let v72 : DmaSems sig S1 := cc0_scratch4.slice (Rect.unit (s := S4) ![0] S1.size inb_S4_S1_0)
      let v73 : DmaSems sig S_ := v72.squeeze S_ squeezes_S1_S_
      let v74 : Memref sig .tc .vmem S1x1024x1024 .f32 := cW.slice (Rect.unit (s := S4x1024x1024) ![0, 0, 0] S1x1024x1024.size inb_S4x1024x1024_S1x1024x1024_0_0_0) (fun _ => rfl)
      let v75 : Memref sig .tc .vmem S1024x1024 .f32 := v74.squeeze S1024x1024 squeezes_S1x1024x1024_S1024x1024
      let v76 : Memref sig .tc .hbm S1024x1024 .f32 := xW.slice (Rect.unit (s := S4096x1024) ![0, 0] S1024x1024.size inb_S4096x1024_S1024x1024_0_0) (fun _ => rfl)
      Prog.lift (.waitDma2 v73.sem v76 v75 (View.wordExact_bits rfl) ((View.wordExact_bits rfl).reshape _ _))
      pure ⟨⟩
    else do
      pure ⟨⟩
    let v49 : BitVec 1 := Scalar.cmpi .ne (v2w c) 1#32
    let v50 : BitVec 32 := Scalar.extui v49
    let v51 : BitVec 1 := Scalar.cmpi .ne v50 0#32
    if k0_h11 : v51 = 1#1 then do
      let v72 : DmaSems sig S1 := cc0_scratch4.slice (Rect.unit (s := S4) ![1] S1.size inb_S4_S1_1)
      let v73 : DmaSems sig S_ := v72.squeeze S_ squeezes_S1_S_
      let v74 : Memref sig .tc .vmem S1x1024x1024 .f32 := cW.slice (Rect.unit (s := S4x1024x1024) ![1, 0, 0] S1x1024x1024.size inb_S4x1024x1024_S1x1024x1024_1_0_0) (fun _ => rfl)
      let v75 : Memref sig .tc .vmem S1024x1024 .f32 := v74.squeeze S1024x1024 squeezes_S1x1024x1024_S1024x1024
      let v76 : Memref sig .tc .hbm S1024x1024 .f32 := xW.slice (Rect.unit (s := S4096x1024) ![1024, 0] S1024x1024.size inb_S4096x1024_S1024x1024_1024_0) (fun _ => rfl)
      Prog.lift (.waitDma2 v73.sem v76 v75 (View.wordExact_bits rfl) ((View.wordExact_bits rfl).reshape _ _))
      pure ⟨⟩
    else do
      pure ⟨⟩
    let v52 : BitVec 1 := Scalar.cmpi .ne (v2w c) 2#32
    let v53 : BitVec 32 := Scalar.extui v52
    let v54 : BitVec 1 := Scalar.cmpi .ne v53 0#32
    if k0_h12 : v54 = 1#1 then do
      let v72 : DmaSems sig S1 := cc0_scratch4.slice (Rect.unit (s := S4) ![2] S1.size inb_S4_S1_2)
      let v73 : DmaSems sig S_ := v72.squeeze S_ squeezes_S1_S_
      let v74 : Memref sig .tc .vmem S1x1024x1024 .f32 := cW.slice (Rect.unit (s := S4x1024x1024) ![2, 0, 0] S1x1024x1024.size inb_S4x1024x1024_S1x1024x1024_2_0_0) (fun _ => rfl)
      let v75 : Memref sig .tc .vmem S1024x1024 .f32 := v74.squeeze S1024x1024 squeezes_S1x1024x1024_S1024x1024
      let v76 : Memref sig .tc .hbm S1024x1024 .f32 := xW.slice (Rect.unit (s := S4096x1024) ![2048, 0] S1024x1024.size inb_S4096x1024_S1024x1024_2048_0) (fun _ => rfl)
      Prog.lift (.waitDma2 v73.sem v76 v75 (View.wordExact_bits rfl) ((View.wordExact_bits rfl).reshape _ _))
      pure ⟨⟩
    else do
      pure ⟨⟩
    let v55 : BitVec 1 := Scalar.cmpi .ne (v2w c) 3#32
    let v56 : BitVec 32 := Scalar.extui v55
    let v57 : BitVec 1 := Scalar.cmpi .ne v56 0#32
    if k0_h13 : v57 = 1#1 then do
      let v72 : DmaSems sig S1 := cc0_scratch4.slice (Rect.unit (s := S4) ![3] S1.size inb_S4_S1_3)
      let v73 : DmaSems sig S_ := v72.squeeze S_ squeezes_S1_S_
      let v74 : Memref sig .tc .vmem S1x1024x1024 .f32 := cW.slice (Rect.unit (s := S4x1024x1024) ![3, 0, 0] S1x1024x1024.size inb_S4x1024x1024_S1x1024x1024_3_0_0) (fun _ => rfl)
      let v75 : Memref sig .tc .vmem S1024x1024 .f32 := v74.squeeze S1024x1024 squeezes_S1x1024x1024_S1024x1024
      let v76 : Memref sig .tc .hbm S1024x1024 .f32 := xW.slice (Rect.unit (s := S4096x1024) ![3072, 0] S1024x1024.size inb_S4096x1024_S1024x1024_3072_0) (fun _ => rfl)
      Prog.lift (.waitDma2 v73.sem v76 v75 (View.wordExact_bits rfl) ((View.wordExact_bits rfl).reshape _ _))
      pure ⟨⟩
    else do
      pure ⟨⟩
    if k0_h14 : k0_cond14 c = 1#1 then do
      let v70 : DmaSems sig S1 := cc0_scratch3.slice (Rect.unit (s := S4) ![0] S1.size inb_S4_S1_0)
      let v71 : DmaSems sig S_ := v70.squeeze S_ squeezes_S1_S_
      let v72 : Memref sig .tc .hbm S1024x1024 .f32 := xW.slice (Rect.unit (s := S4096x1024) ![0, 0] S1024x1024.size inb_S4096x1024_S1024x1024_0_0) (fun _ => rfl)
      let v73 : Memref sig .tc .vmem S1x1024x1024 .f32 := cW.slice (Rect.unit (s := S4x1024x1024) (k0_off11 c) S1x1024x1024.size (k0_off11_inb i c k0_h1 k0_h14)) (fun _ => rfl)
      let v74 : Memref sig .tc .vmem S1024x1024 .f32 := v73.squeeze S1024x1024 squeezes_S1x1024x1024_S1024x1024
      Prog.lift (.waitDma2 v71.sem v74 v72 ((View.wordExact_bits rfl).reshape _ _) (View.wordExact_bits rfl))
      pure ⟨⟩
    else do
      pure ⟨⟩
    if k0_h15 : k0_cond15 c = 1#1 then do
      let v70 : DmaSems sig S1 := cc0_scratch3.slice (Rect.unit (s := S4) ![1] S1.size inb_S4_S1_1)
      let v71 : DmaSems sig S_ := v70.squeeze S_ squeezes_S1_S_
      let v72 : Memref sig .tc .hbm S1024x1024 .f32 := xW.slice (Rect.unit (s := S4096x1024) ![1024, 0] S1024x1024.size inb_S4096x1024_S1024x1024_1024_0) (fun _ => rfl)
      let v73 : Memref sig .tc .vmem S1x1024x1024 .f32 := cW.slice (Rect.unit (s := S4x1024x1024) (k0_off12 c) S1x1024x1024.size (k0_off12_inb i c k0_h1 k0_h15)) (fun _ => rfl)
      let v74 : Memref sig .tc .vmem S1024x1024 .f32 := v73.squeeze S1024x1024 squeezes_S1x1024x1024_S1024x1024
      Prog.lift (.waitDma2 v71.sem v74 v72 ((View.wordExact_bits rfl).reshape _ _) (View.wordExact_bits rfl))
      pure ⟨⟩
    else do
      pure ⟨⟩
    if k0_h16 : k0_cond16 c = 1#1 then do
      let v70 : DmaSems sig S1 := cc0_scratch3.slice (Rect.unit (s := S4) ![2] S1.size inb_S4_S1_2)
      let v71 : DmaSems sig S_ := v70.squeeze S_ squeezes_S1_S_
      let v72 : Memref sig .tc .hbm S1024x1024 .f32 := xW.slice (Rect.unit (s := S4096x1024) ![2048, 0] S1024x1024.size inb_S4096x1024_S1024x1024_2048_0) (fun _ => rfl)
      let v73 : Memref sig .tc .vmem S1x1024x1024 .f32 := cW.slice (Rect.unit (s := S4x1024x1024) (k0_off13 c) S1x1024x1024.size (k0_off13_inb i c k0_h1 k0_h16)) (fun _ => rfl)
      let v74 : Memref sig .tc .vmem S1024x1024 .f32 := v73.squeeze S1024x1024 squeezes_S1x1024x1024_S1024x1024
      Prog.lift (.waitDma2 v71.sem v74 v72 ((View.wordExact_bits rfl).reshape _ _) (View.wordExact_bits rfl))
      pure ⟨⟩
    else do
      pure ⟨⟩
    if k0_h17 : k0_cond17 c = 1#1 then do
      let v70 : DmaSems sig S1 := cc0_scratch3.slice (Rect.unit (s := S4) ![3] S1.size inb_S4_S1_3)
      let v71 : DmaSems sig S_ := v70.squeeze S_ squeezes_S1_S_
      let v72 : Memref sig .tc .hbm S1024x1024 .f32 := xW.slice (Rect.unit (s := S4096x1024) ![3072, 0] S1024x1024.size inb_S4096x1024_S1024x1024_3072_0) (fun _ => rfl)
      let v73 : Memref sig .tc .vmem S1x1024x1024 .f32 := cW.slice (Rect.unit (s := S4x1024x1024) (k0_off14 c) S1x1024x1024.size (k0_off14_inb i c k0_h1 k0_h17)) (fun _ => rfl)
      let v74 : Memref sig .tc .vmem S1024x1024 .f32 := v73.squeeze S1024x1024 squeezes_S1x1024x1024_S1024x1024
      Prog.lift (.waitDma2 v71.sem v74 v72 ((View.wordExact_bits rfl).reshape _ _) (View.wordExact_bits rfl))
      pure ⟨⟩
    else do
      pure ⟨⟩
    k
  else do
    k

/-! ## The exchange of the maxima -/

/-- The part of the body that exchanges the maxima, on device `c`, going on with `k`. -/
def stageX (i : grid0.Coords) (c : Dev nD) (arg3 : Memref sig .tc .vmem S1024x256 .f32) (harg3 : arg3.IsWhole)
    (arg4 : Memref sig .tc .vmem S1024x256 .f32) (harg4 : arg4.IsWhole) (k0_h25 : k0_cond25 i = 1#1)
    (k : Prog (TpuEff nD τ sig (Elt F) Λ₀ .tc) PUnit) :
    Prog (TpuEff nD τ sig (Elt F) Λ₀ .tc) PUnit := do
  if k0_h26 : k0_cond26 i = 1#1 then do
    let v64 : BitVec 1 ← k0_part2 i xW (Memref.isWhole_whole _) arg3 harg3 arg4 harg4 cW (Memref.isWhole_whole _) yW (Memref.isWhole_whole _) bW (Memref.isWhole_whole _) cc0_scratch3 cc0_scratch4 cc0_scratch5 sW (Memref.isWhole_whole _) rW (Memref.isWhole_whole _) cc0_scratch8 cc0_scratch9 mW (Memref.isWhole_whole _) c (v2w c) k0_h25 k0_h26
    if k0_h33 : v64 = 1#1 then do
      let v91 : DmaSems sig S1 := cc0_scratch9.slice (Rect.unit (s := S4) ![2] S1.size inb_S4_S1_2)
      let v92 : DmaSems sig S_ := v91.squeeze S_ squeezes_S1_S_
      let v93 : Memref sig .tc .vmem S1x8x128 .f32 := rW.slice (Rect.unit (s := S4x8x128) ![2, 0, 0] S1x8x128.size inb_S4x8x128_S1x8x128_2_0_0) (fun _ => rfl)
      let v94 : Memref sig .tc .vmem S8x128 .f32 := v93.squeeze S8x128 squeezes_S1x8x128_S8x128
      Prog.lift (.waitDma2 v92.sem sW v94 (Memref.isWhole_whole cc0_scratch6).wordExact ((View.wordExact_bits rfl).reshape _ _))
      pure ⟨⟩
    else do
      pure ⟨⟩
    let v65 : BitVec 1 := Scalar.cmpi .ne (v2w c) 3#32
    let v66 : BitVec 32 := Scalar.extui v65
    let v67 : BitVec 1 := Scalar.cmpi .ne v66 0#32
    if k0_h34 : v67 = 1#1 then do
      let v91 : DmaSems sig S1 := cc0_scratch9.slice (Rect.unit (s := S4) ![3] S1.size inb_S4_S1_3)
      let v92 : DmaSems sig S_ := v91.squeeze S_ squeezes_S1_S_
      let v93 : Memref sig .tc .vmem S1x8x128 .f32 := rW.slice (Rect.unit (s := S4x8x128) ![3, 0, 0] S1x8x128.size inb_S4x8x128_S1x8x128_3_0_0) (fun _ => rfl)
      let v94 : Memref sig .tc .vmem S8x128 .f32 := v93.squeeze S8x128 squeezes_S1x8x128_S8x128
      Prog.lift (.waitDma2 v92.sem sW v94 (Memref.isWhole_whole cc0_scratch6).wordExact ((View.wordExact_bits rfl).reshape _ _))
      pure ⟨⟩
    else do
      pure ⟨⟩
    if k0_h35 : k0_cond35 c = 1#1 then do
      let v89 : DmaSems sig S1 := cc0_scratch8.slice (Rect.unit (s := S4) ![0] S1.size inb_S4_S1_0)
      let v90 : DmaSems sig S_ := v89.squeeze S_ squeezes_S1_S_
      let v91 : Memref sig .tc .vmem S1x8x128 .f32 := rW.slice (Rect.unit (s := S4x8x128) (k0_off28 c) S1x8x128.size (k0_off28_inb i c k0_h25 k0_h26 k0_h35)) (fun _ => rfl)
      let v92 : Memref sig .tc .vmem S8x128 .f32 := v91.squeeze S8x128 squeezes_S1x8x128_S8x128
      Prog.lift (.waitDma2 v90.sem v92 sW ((View.wordExact_bits rfl).reshape _ _) (Memref.isWhole_whole cc0_scratch6).wordExact)
      pure ⟨⟩
    else do
      pure ⟨⟩
    if k0_h36 : k0_cond36 c = 1#1 then do
      let v89 : DmaSems sig S1 := cc0_scratch8.slice (Rect.unit (s := S4) ![1] S1.size inb_S4_S1_1)
      let v90 : DmaSems sig S_ := v89.squeeze S_ squeezes_S1_S_
      let v91 : Memref sig .tc .vmem S1x8x128 .f32 := rW.slice (Rect.unit (s := S4x8x128) (k0_off29 c) S1x8x128.size (k0_off29_inb i c k0_h25 k0_h26 k0_h36)) (fun _ => rfl)
      let v92 : Memref sig .tc .vmem S8x128 .f32 := v91.squeeze S8x128 squeezes_S1x8x128_S8x128
      Prog.lift (.waitDma2 v90.sem v92 sW ((View.wordExact_bits rfl).reshape _ _) (Memref.isWhole_whole cc0_scratch6).wordExact)
      pure ⟨⟩
    else do
      pure ⟨⟩
    if k0_h37 : k0_cond37 c = 1#1 then do
      let v89 : DmaSems sig S1 := cc0_scratch8.slice (Rect.unit (s := S4) ![2] S1.size inb_S4_S1_2)
      let v90 : DmaSems sig S_ := v89.squeeze S_ squeezes_S1_S_
      let v91 : Memref sig .tc .vmem S1x8x128 .f32 := rW.slice (Rect.unit (s := S4x8x128) (k0_off30 c) S1x8x128.size (k0_off30_inb i c k0_h25 k0_h26 k0_h37)) (fun _ => rfl)
      let v92 : Memref sig .tc .vmem S8x128 .f32 := v91.squeeze S8x128 squeezes_S1x8x128_S8x128
      Prog.lift (.waitDma2 v90.sem v92 sW ((View.wordExact_bits rfl).reshape _ _) (Memref.isWhole_whole cc0_scratch6).wordExact)
      pure ⟨⟩
    else do
      pure ⟨⟩
    if k0_h38 : k0_cond38 c = 1#1 then do
      let v89 : DmaSems sig S1 := cc0_scratch8.slice (Rect.unit (s := S4) ![3] S1.size inb_S4_S1_3)
      let v90 : DmaSems sig S_ := v89.squeeze S_ squeezes_S1_S_
      let v91 : Memref sig .tc .vmem S1x8x128 .f32 := rW.slice (Rect.unit (s := S4x8x128) (k0_off31 c) S1x8x128.size (k0_off31_inb i c k0_h25 k0_h26 k0_h38)) (fun _ => rfl)
      let v92 : Memref sig .tc .vmem S8x128 .f32 := v91.squeeze S8x128 squeezes_S1x8x128_S8x128
      Prog.lift (.waitDma2 v90.sem v92 sW ((View.wordExact_bits rfl).reshape _ _) (Memref.isWhole_whole cc0_scratch6).wordExact)
      pure ⟨⟩
    else do
      pure ⟨⟩
    let v80 : Vec F S4x8x128 .f32 ← Prog.lift (.load rW (Rect.unit (s := S4x8x128) ![0, 0, 0] S4x8x128.size inb_S4x8x128_S4x8x128_0_0_0).toLoadRect (View.loadsAt_vmem h_S4x8x128))
    let v86 : Elt F .f32 ← smemLoad mW (Rect.unit (s := S4) ![1] S1.size inb_S4_S1_1) numel1_S1 rfl
    Prog.lift (.store mW (Rect.unit (s := S4) ![1] S1.size inb_S4_S1_1) (fun _ => k0_pay8 v80) Finset.univ (View.stores_smem_one rfl numel1_S1) (.inl rfl))
    let v88 : Elt F .f32 ← smemLoad mW (Rect.unit (s := S4) ![2] S1.size inb_S4_S1_2) numel1_S1 rfl
    Prog.lift (.store mW (Rect.unit (s := S4) ![2] S1.size inb_S4_S1_2) (fun _ => k0_pay9 v80) Finset.univ (View.stores_smem_one rfl numel1_S1) (.inl rfl))
    k
  else do
    k

/-! ## What the exchanges start from and leave -/

/-- The ghost state of the exchange of the blocks of `x`: the credits for the entry signals and for the blocks to come,
    the positions, and the tokens for the payments the device makes. -/
def exA (c : Dev nD) : sProp 𝕄 :=
  iprop(cred (tallyAt (barCell c) () 3) ∗ atPos ER (barCell c) 0 ∅ 0 ∗ atPos ER (copyCell c) 0 ∅ 0 ∗ dutyTok ER (copyCell c) 0 (0 : Fin 4)
    ∗ (bigSep Finset.univ fun j : Fin 4 => atPos ER (xCell 0 c j) 0 ∅ 0)
    ∗ (bigSep Finset.univ fun j : Fin 4 => atPos ER (xCell 1 c j) 0 ∅ 0)
    ∗ (bigSep Finset.univ fun j : Fin 4 => peer c j (dutyTok ER (barCell j) 0 c))
    ∗ (bigSep Finset.univ fun j : Fin 4 => peer c j (dutyTok ER (xCell 0 c j) 0 (0 : Fin 4)))
    ∗ (bigSep Finset.univ fun j : Fin 4 => peer c j (dutyTok ER (xCell 1 j c) 0 (0 : Fin 4)))
    ∗ (bigSep Finset.univ fun j : Fin 4 => peer c j (cred (tallyAt (xCell 1 c j) () Nx))))

/-- What is left of it: every counter at zero. -/
def exA' (c : Dev nD) : sProp 𝕄 :=
  iprop(semVal (barCell c) 0 ∗ semVal (copyCell c) 0
    ∗ (bigSep Finset.univ fun j : Fin 4 => semVal (xCell 0 c j) 0) ∗ (bigSep Finset.univ fun j : Fin 4 => semVal (xCell 1 c j) 0))

/-- The same of the exchange of the maxima. -/
def exX (c : Dev nD) : sProp 𝕄 :=
  iprop((bigSep Finset.univ fun j : Fin 4 => atPos ER (xCell 2 c j) 0 ∅ 0)
    ∗ (bigSep Finset.univ fun j : Fin 4 => atPos ER (xCell 3 c j) 0 ∅ 0)
    ∗ (bigSep Finset.univ fun j : Fin 4 => peer c j (dutyTok ER (xCell 2 c j) 0 (0 : Fin 4)))
    ∗ (bigSep Finset.univ fun j : Fin 4 => peer c j (dutyTok ER (xCell 3 j c) 0 (0 : Fin 4)))
    ∗ (bigSep Finset.univ fun j : Fin 4 => peer c j (cred (tallyAt (xCell 3 c j) () Na))))
def exX' (c : Dev nD) : sProp 𝕄 :=
  iprop((bigSep Finset.univ fun j : Fin 4 => semVal (xCell 2 c j) 0) ∗ (bigSep Finset.univ fun j : Fin 4 => semVal (xCell 3 c j) 0))

/-- A device's `x` is its row blocks, the gathered blocks and the gathered maxima their slots. -/
theorem x_blocks (c : Dev nD) :
    ((((c : Thread nD τ).loc main_arg0) ↦{fullShare} xin m c : sProp 𝕄)) = bigSep Finset.univ fun j => xPts m c j := by
  unfold xPts
  exact Ring.pointsTo_blocks (ℓ := (c : Thread nD τ).loc main_arg0) xS xM_disjoint xM_cover (xin m c)
omit [FloatOps F] in
theorem c_blocks (c : Dev nD) (f : S4x1024x1024.Idx → Elt F .f32) :
    ((((c : Thread nD τ).loc cc0_scratch0) ↦{fullShare} f : sProp 𝕄)) = bigSep Finset.univ fun j => cPts c j f := by
  unfold cPts
  exact Ring.pointsTo_blocks (ℓ := (c : Thread nD τ).loc cc0_scratch0) cS cM_disjoint cM_cover f
omit [FloatOps F] in
theorem r_blocks (c : Dev nD) (f : S4x8x128.Idx → Elt F .f32) :
    ((((c : Thread nD τ).loc cc0_scratch7) ↦{fullShare} f : sProp 𝕄)) = bigSep Finset.univ fun j => rPts c j f := by
  unfold rPts
  exact Ring.pointsTo_blocks (ℓ := (c : Thread nD τ).loc cc0_scratch7) rS rM_disjoint rM_cover f

omit [FloatOps F] in
/-- What the entry signal to device `j` hands over. -/
theorem bar_give (c j : Dev nD) (f : S4x1024x1024.Idx → Elt F .f32) (g : S4x8x128.Idx → Elt F .f32) :
    iprop(peer c j (cPts c j f) ∗ peer c j (rPts c j g)) ⊢ peer c j (barPay j c) := by
  by_cases h : j = c
  · rw [h]; simp only [peer_self]; iintro -; iempintro
  · rw [peer_ne h, peer_ne h, peer_ne h]
    unfold barPay
    iintro ⟨H, H'⟩
    isplitl [H]; · iexists f; iexact H
    iexists g; iexact H'
omit [FloatOps F] in
/-- And what comes with it. -/
theorem bar_take (c j : Dev nD) :
    peer (F := F) c j (barPay c j) ⊢ iprop(peer c j (iprop(∃ f, cPts j c f)) ∗ peer c j (iprop(∃ f, rPts j c f))) := by
  by_cases h : j = c
  · rw [h]; simp only [peer_self]; iintro -; isplitl [] <;> iempintro
  · rw [peer_ne h, peer_ne h, peer_ne h]
    exact Entails.refl _
omit [FloatOps F] in
theorem bar_takes (c : Dev nD) :
    (bigSep Finset.univ fun j : Fin 4 => peer (F := F) c j (barPay c j))
      ⊢ iprop((bigSep Finset.univ fun j : Fin 4 => peer c j (iprop(∃ f, cPts j c f)))
        ∗ (bigSep Finset.univ fun j : Fin 4 => peer c j (iprop(∃ f, rPts j c f)))) := by
  rw [← bigSep_sep']
  exact bigSep_mono fun j _ => bar_take c j

/-! ## The program's conditions -/

/-- The conditions on the device's place say that it is not the partner named. -/
theorem place2 (c : Dev nD) : k0_cond2 c = 1#1 ↔ (0 : Fin 4) ≠ c := by revert c; decide
theorem place3 (c : Dev nD) : k0_cond3 c = 1#1 ↔ (1 : Fin 4) ≠ c := by revert c; decide
theorem place4 (c : Dev nD) : k0_cond4 c = 1#1 ↔ (2 : Fin 4) ≠ c := by revert c; decide
theorem place5 (c : Dev nD) : k0_cond5 c = 1#1 ↔ (3 : Fin 4) ≠ c := by revert c; decide
theorem place6 (c : Dev nD) : k0_cond6 c = 1#1 ↔ (0 : Fin 4) ≠ c := by revert c; decide
theorem place7 (c : Dev nD) : k0_cond7 c = 1#1 ↔ (1 : Fin 4) ≠ c := by revert c; decide
theorem place8 (c : Dev nD) : k0_cond8 c = 1#1 ↔ (2 : Fin 4) ≠ c := by revert c; decide
theorem place9 (c : Dev nD) : k0_cond9 c = 1#1 ↔ (3 : Fin 4) ≠ c := by revert c; decide
theorem place14 (c : Dev nD) : k0_cond14 c = 1#1 ↔ (0 : Fin 4) ≠ c := by revert c; decide
theorem place15 (c : Dev nD) : k0_cond15 c = 1#1 ↔ (1 : Fin 4) ≠ c := by revert c; decide
theorem place16 (c : Dev nD) : k0_cond16 c = 1#1 ↔ (2 : Fin 4) ≠ c := by revert c; decide
theorem place17 (c : Dev nD) : k0_cond17 c = 1#1 ↔ (3 : Fin 4) ≠ c := by revert c; decide
theorem place27 (c : Dev nD) : k0_cond27 c = 1#1 ↔ (0 : Fin 4) ≠ c := by revert c; decide
theorem place28 (c : Dev nD) : k0_cond28 c = 1#1 ↔ (1 : Fin 4) ≠ c := by revert c; decide
theorem place29 (c : Dev nD) : k0_cond29 c = 1#1 ↔ (2 : Fin 4) ≠ c := by revert c; decide
theorem place30 (c : Dev nD) : k0_cond30 c = 1#1 ↔ (3 : Fin 4) ≠ c := by revert c; decide
theorem place35 (c : Dev nD) : k0_cond35 c = 1#1 ↔ (0 : Fin 4) ≠ c := by revert c; decide
theorem place36 (c : Dev nD) : k0_cond36 c = 1#1 ↔ (1 : Fin 4) ≠ c := by revert c; decide
theorem place37 (c : Dev nD) : k0_cond37 c = 1#1 ↔ (2 : Fin 4) ≠ c := by revert c; decide
theorem place38 (c : Dev nD) : k0_cond38 c = 1#1 ↔ (3 : Fin 4) ≠ c := by revert c; decide
theorem word0 (c : Dev nD) : Scalar.cmpi .ne (Scalar.extui (Scalar.cmpi .ne (v2w c) 0#32) : BitVec 32) 0#32 = 1#1 ↔ (0 : Fin 4) ≠ c := by revert c; decide
theorem word1 (c : Dev nD) : Scalar.cmpi .ne (Scalar.extui (Scalar.cmpi .ne (v2w c) 1#32) : BitVec 32) 0#32 = 1#1 ↔ (1 : Fin 4) ≠ c := by revert c; decide
theorem word2 (c : Dev nD) : Scalar.cmpi .ne (Scalar.extui (Scalar.cmpi .ne (v2w c) 2#32) : BitVec 32) 0#32 = 1#1 ↔ (2 : Fin 4) ≠ c := by revert c; decide
theorem word3 (c : Dev nD) : Scalar.cmpi .ne (Scalar.extui (Scalar.cmpi .ne (v2w c) 3#32) : BitVec 32) 0#32 = 1#1 ↔ (3 : Fin 4) ≠ c := by revert c; decide

set_option maxHeartbeats 2000000 in
/-- The exchange of the blocks of `x`: afterwards device `c`'s gathered blocks are those of all four devices, its `x` is
    as launched, every semaphore used is at zero, and it holds its own slot of the others' gathered maxima. -/
theorem stageA_sound (K : Dev nD × CK → ℕ) (i : grid0.Coords) (hi : k0_cond1 i = 1#1) (c : Dev nD)
    (arg3 : Memref sig .tc .vmem S1024x256 .f32) (harg3 : arg3.IsWhole) (arg4 : Memref sig .tc .vmem S1024x256 .f32) (harg4 : arg4.IsWhole)
    (k : Prog (TpuEff nD τ sig (Elt F) Λ₀ .tc) PUnit) {Q : PUnit → sProp 𝕄} :
    iprop(recs m K ∗ levAts L lv ∗ ow c (O₀ c) ∗ exA c
        ∗ (((c : Thread nD τ).loc main_arg0) ↦{fullShare} xin m c)
        ∗ (∃ f : S4x1024x1024.Idx → Elt F .f32, ((c : Thread nD τ).loc cc0_scratch0) ↦{fullShare} f)
        ∗ (∃ f : S4x8x128.Idx → Elt F .f32, ((c : Thread nD τ).loc cc0_scratch7) ↦{fullShare} f))
      ⊢ iprop(((ow c (owA c 4) ∗ exA' c
            ∗ (((c : Thread nD τ).loc main_arg0) ↦{fullShare} xin m c)
            ∗ (((c : Thread nD τ).loc cc0_scratch0) ↦{fullShare} commC m c)
            ∗ (∃ f, rPts c c f)
            ∗ (bigSep Finset.univ fun j : Fin 4 => peer c j (iprop(∃ f, rPts j c f))))
          -∗ wp frame (wpE (defs₀ (F := F)) 𝒱₀ (c : Thread nD τ) none) Set.univ k Q)
        -∗ wp frame (wpE (defs₀ (F := F)) 𝒱₀ (c : Thread nD τ) none) Set.univ (stageA i c arg3 harg3 arg4 harg4 k) Q) := by
  unfold stageA
  rw [dif_pos hi, wp_bind, k0_part1_eq_skeleton]
  unfold k0_part1_skel exA
  iintro ⟨#Hr, #Hl, HO, ⟨HcB, HaB, HaC, HtC, Has, Har, HtB, Hts, Htr, Hcr⟩, Hx, ⟨%fc, Hc⟩, ⟨%fr, Hm⟩⟩ Hk
  ihave Hx := (Entails.of_eq ((x_blocks m c).trans (bigSep_own c _))) $$ Hx
  icases Hx with ⟨Hxo, Hx⟩
  ihave Hc := (Entails.of_eq ((c_blocks c fc).trans (bigSep_own c _))) $$ Hc
  icases Hc with ⟨Hco, Hc⟩
  ihave Hm := (Entails.of_eq ((r_blocks c fr).trans (bigSep_own c _))) $$ Hm
  icases Hm with ⟨Hmo, Hm⟩
  ihave Hx := (Entails.of_eq (bigSep_fin4 _)) $$ Hx; icases Hx with ⟨Hx0, Hx1, Hx2, Hx3⟩
  ihave Hc := (Entails.of_eq (bigSep_fin4 _)) $$ Hc; icases Hc with ⟨Hc0, Hc1, Hc2, Hc3⟩
  ihave Hm := (Entails.of_eq (bigSep_fin4 _)) $$ Hm; icases Hm with ⟨Hm0, Hm1, Hm2, Hm3⟩
  ihave Has := (Entails.of_eq (bigSep_fin4 _)) $$ Has; icases Has with ⟨Has0, Has1, Has2, Has3⟩
  ihave Har := (Entails.of_eq (bigSep_fin4 _)) $$ Har; icases Har with ⟨Har0, Har1, Har2, Har3⟩
  ihave HtB := (Entails.of_eq (bigSep_fin4 _)) $$ HtB; icases HtB with ⟨HtB0, HtB1, HtB2, HtB3⟩
  ihave Hts := (Entails.of_eq (bigSep_fin4 _)) $$ Hts; icases Hts with ⟨Hts0, Hts1, Hts2, Hts3⟩
  ihave Htr := (Entails.of_eq (bigSep_fin4 _)) $$ Htr; icases Htr with ⟨Htr0, Htr1, Htr2, Htr3⟩
  ihave Hcr := (Entails.of_eq (bigSep_fin4 _)) $$ Hcr; icases Hcr with ⟨Hcr0, Hcr1, Hcr2, Hcr3⟩
  -- the entry signals
  ihave Hb := (bar_give c 0 fc fr) $$ [Hc0 Hm0]
  · iframe Hc0 Hm0
  iapply (sig_at m K c 0 (place2 c) k0_dev1_eq (O₁ := owB c 4) (owB c 3) rfl) $$ [HO HtB0 Hb]
  · iframe Hr HO HtB0 Hb
  iintro HO
  ihave Hb := (bar_give c 1 fc fr) $$ [Hc1 Hm1]
  · iframe Hc1 Hm1
  iapply (sig_at m K c 1 (place3 c) k0_dev2_eq (O₁ := owB c 3) (owB c 2) rfl) $$ [HO HtB1 Hb]
  · iframe Hr HO HtB1 Hb
  iintro HO
  ihave Hb := (bar_give c 2 fc fr) $$ [Hc2 Hm2]
  · iframe Hc2 Hm2
  iapply (sig_at m K c 2 (place4 c) k0_dev3_eq (O₁ := owB c 2) (owB c 1) rfl) $$ [HO HtB2 Hb]
  · iframe Hr HO HtB2 Hb
  iintro HO
  ihave Hb := (bar_give c 3 fc fr) $$ [Hc3 Hm3]
  · iframe Hc3 Hm3
  iapply (sig_at m K c 3 (place5 c) k0_dev4_eq (O₁ := owB c 1) (owB c 0) rfl) $$ [HO HtB3 Hb]
  · iframe Hr HO HtB3 Hb
  iintro HO
  -- every device has entered
  iapply (bar_wait m K c) $$ [HO HcB HaB]
  · iframe Hr Hl HO HcB HaB
  iintro ⟨HO, HvB, Hp⟩
  ihave Hp := (bar_takes c) $$ Hp
  icases Hp with ⟨Hq, Hm⟩
  ihave Hq := (Entails.of_eq (bigSep_fin4 _)) $$ Hq; icases Hq with ⟨Hq0, Hq1, Hq2, Hq3⟩
  -- the copy of the own block
  iapply (copy_step m K c (xM_of (k0_off2_eq c) _) (cM_of (k0_off1_eq c) _) fc) $$ [Hxo Hco HtC]
  · iframe Hr Hxo Hco HtC
  iintro HcC
  -- the blocks of the others
  iapply (send_at m K c 0 (place6 c) k0_dev5_eq rfl (k0_off4_eq c) rfl (k0_off3_eq c) (O₁ := owR c 4) (owR c 3) rfl)
    $$ [HO Hx0 Hq0 Hts0 Htr0]
  · iframe Hr HO Hx0 Hq0 Hts0 Htr0
  iintro ⟨HO, Hcs0⟩
  iapply (send_at m K c 1 (place7 c) k0_dev6_eq rfl (k0_off6_eq c) rfl (k0_off5_eq c) (O₁ := owR c 3) (owR c 2) rfl)
    $$ [HO Hx1 Hq1 Hts1 Htr1]
  · iframe Hr HO Hx1 Hq1 Hts1 Htr1
  iintro ⟨HO, Hcs1⟩
  iapply (send_at m K c 2 (place8 c) k0_dev7_eq rfl (k0_off8_eq c) rfl (k0_off7_eq c) (O₁ := owR c 2) (owR c 1) rfl)
    $$ [HO Hx2 Hq2 Hts2 Htr2]
  · iframe Hr HO Hx2 Hq2 Hts2 Htr2
  iintro ⟨HO, Hcs2⟩
  irw [Prog.pure_eq_ret, wp_ret]
  imodintro
  iapply (send_at m K c 3 (place9 c) k0_dev8_eq rfl (k0_off10_eq c) rfl (k0_off9_eq c) (O₁ := owR c 1) (owR c 0) rfl)
    $$ [HO Hx3 Hq3 Hts3 Htr3]
  · iframe Hr HO Hx3 Hq3 Hts3 Htr3
  iintro ⟨HO, Hcs3⟩
  -- the own block has landed
  iapply (copy_wait m K c (cM_of (k0_off1_eq c) _) (O := owA c 4) (Above.mono (above_owA c 4) (Nat.zero_le _))) $$ [HO HcC HaC]
  · iframe Hr Hl HO HcC HaC
  iintro ⟨HO, HvC, Hco, Hxo⟩
  -- the others' blocks
  iapply (recv_at m K c 0 (word0 c) rfl rfl (O := owA c 4) (above_owA c 4)) $$ [HO Hcr0 Har0]
  · unfold wPre; iframe Hr Hl HO Hcr0 Har0
  unfold wPost
  iintro ⟨HO, Hvr0, Hc0⟩
  iapply (recv_at m K c 1 (word1 c) rfl rfl (O := owA c 4) (above_owA c 4)) $$ [HO Hcr1 Har1]
  · unfold wPre; iframe Hr Hl HO Hcr1 Har1
  unfold wPost
  iintro ⟨HO, Hvr1, Hc1⟩
  iapply (recv_at m K c 2 (word2 c) rfl rfl (O := owA c 4) (above_owA c 4)) $$ [HO Hcr2 Har2]
  · unfold wPre; iframe Hr Hl HO Hcr2 Har2
  unfold wPost
  iintro ⟨HO, Hvr2, Hc2⟩
  iapply (recv_at m K c 3 (word3 c) rfl rfl (O := owA c 4) (above_owA c 4)) $$ [HO Hcr3 Har3]
  · unfold wPre; iframe Hr Hl HO Hcr3 Har3
  unfold wPost
  iintro ⟨HO, Hvr3, Hc3⟩
  -- and the own have left
  iapply (sent_at m K c 0 (place14 c) rfl rfl (O := owA c 4) (Above.mono (above_owA c 4) (Nat.zero_le _))) $$ [HO Hcs0 Has0]
  · unfold wPre; iframe Hr Hl HO Hcs0 Has0
  unfold wPost
  iintro ⟨HO, Hvs0, Hx0⟩
  iapply (sent_at m K c 1 (place15 c) rfl rfl (O := owA c 4) (Above.mono (above_owA c 4) (Nat.zero_le _))) $$ [HO Hcs1 Has1]
  · unfold wPre; iframe Hr Hl HO Hcs1 Has1
  unfold wPost
  iintro ⟨HO, Hvs1, Hx1⟩
  iapply (sent_at m K c 2 (place16 c) rfl rfl (O := owA c 4) (Above.mono (above_owA c 4) (Nat.zero_le _))) $$ [HO Hcs2 Has2]
  · unfold wPre; iframe Hr Hl HO Hcs2 Has2
  unfold wPost
  iintro ⟨HO, Hvs2, Hx2⟩
  iapply (sent_at m K c 3 (place17 c) rfl rfl (O := owA c 4) (Above.mono (above_owA c 4) (Nat.zero_le _))) $$ [HO Hcs3 Has3]
  · unfold wPre; iframe Hr Hl HO Hcs3 Has3
  unfold wPost
  iintro ⟨HO, Hvs3, Hx3⟩
  iapply Hk
  unfold exA'
  irw [x_blocks, c_blocks, bigSep_own c (fun j => xPts m c j), bigSep_own c (fun j => cPts c j (commC m c))]
  irw [bigSep_fin4 fun j => semVal (xCell 0 c j) 0, bigSep_fin4 fun j => semVal (xCell 1 c j) 0,
    bigSep_fin4 fun j => peer c j (xPts m c j), bigSep_fin4 fun j => peer c j (cPts c j (commC m c))]
  unfold payQ
  iframe HO HvB HvC Hvs0 Hvs1 Hvs2 Hvs3 Hvr0 Hvr1 Hvr2 Hvr3 Hxo Hx0 Hx1 Hx2 Hx3 Hco Hc0 Hc1 Hc2 Hc3 Hm
  iexists fr; iexact Hmo

end Cert.KernelIdealProof

end
-- ==== Proof.KernelIdealAccess.lean ====
/-
# Loads and stores of the exchange's buffers

The steps by which the body reads and writes the buffers outside the exchange: the word buffer, the tiles of the
product, and the buffers accessed whole.
-/
module

public import proofs.«01_k».proof.Proof.KernelIdealSteps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
section Steps
variable {α : Type} (c : Dev nD)

/-- A load: holding the elements it reads, the program goes on at what is read. -/
theorem ld_step {Q : α → sProp 𝕄} {cs : CoreSpace} {s : Shape} {e : EltTy} {b : Memref sig .tc cs s e} {r : LoadRect s} {hl : b.view.LoadsAt r}
    {k : (r.shape.Idx → Elt F e) → Prog (TpuEff nD τ sig (Elt F) Λ₀ .tc) α} {S : Finset (Idx (b.view.loc (c : Thread nD τ)))} {q : PosShare TreeShare}
    {f : Buf (Elt F) (b.view.loc (c : Thread nD τ))} (hS : b.view.setOn r.set ⊆ S) :
    (b.view.loc (c : Thread nD τ) ↦[S]{q} f : sProp 𝕄)
      ⊢ iprop(((b.view.loc (c : Thread nD τ) ↦[S]{q} f) -∗ wp frame (wpE (defs₀ (F := F)) 𝒱₀ (c : Thread nD τ) none) Set.univ (k (b.view.readAt (Elt F) r f)) Q)
        -∗ wp frame (wpE (defs₀ (F := F)) 𝒱₀ (c : Thread nD τ) none) Set.univ (Prog.lift (.load b r hl) >>= k) Q) := by
  simp only [Prog.lift, Prog.bind_op, Prog.bind_ret]
  exact wp_load 𝒱₀ (c : Thread nD τ) none Set.univ hS

/-- A store: holding the elements it writes, the program goes on with them written. -/
theorem st_step {Q : α → sProp 𝕄} {cs : CoreSpace} {s : Shape} {e : EltTy} {b : Memref sig .tc cs s e} {r : Rect s} {w : r.shape.Idx → Elt F e}
    {hx : (b.access r).Stores Finset.univ} {hm : _} {k : PUnit → Prog (TpuEff nD τ sig (Elt F) Λ₀ .tc) α} {S : Finset (Idx ((b.access r).loc (c : Thread nD τ)))}
    {f : Buf (Elt F) ((b.access r).loc (c : Thread nD τ))} (hS : (b.access r).setOn Finset.univ ⊆ S) :
    ((b.access r).loc (c : Thread nD τ) ↦[S]{fullShare} f : sProp 𝕄)
      ⊢ iprop((((b.access r).loc (c : Thread nD τ) ↦[S]{fullShare} ((b.access r).write (Elt F) f w Finset.univ))
          -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store b r w Finset.univ hx hm) >>= k) Q) := by
  simp only [Prog.lift, Prog.bind_op, Prog.bind_ret]
  exact wp_store 𝒱₀ (c : Thread nD τ) none Set.univ hS

/-! ## The word buffer -/

theorem word_inb (j : Fin 4) : ∀ a, (![j.val] : Fin 1 → ℕ) a + S1.size a ≤ S4.size a := by revert j; decide
/-- Word `j` of the buffer. -/
abbrev wR (j : Fin 4) : Rect S4 := Rect.unit (s := S4) ![j.val] S1.size (word_inb j)

omit [FloatOps F] in
theorem wR_emb (j : Fin 4) (x : (wR j).shape.Idx) : (mW.access (wR j)).emb x = ix1 (n := 4) j := by
  funext a
  fin_cases a
  exact Fin.ext (by
    have hx : (x 0).val < 1 := (x 0).isLt
    show j.val + 1 * (x 0).val = j.val
    omega)

theorem word_read (j : Fin 4) (f : S4.Idx → Elt F .f32) (x : (wR j).shape.Idx) :
    (mW.access (wR j)).read (Elt F) f x = f (ix1 (n := 4) j) := by
  rw [View.read_apply, wR_emb]; rfl
theorem word_write (j : Fin 4) (f : S4.Idx → Elt F .f32) (v : Elt F .f32) :
    (mW.access (wR j)).write (Elt F) f (fun _ => v) Finset.univ = Function.update f (ix1 (n := 4) j) v := by
  funext i
  by_cases h : i = ix1 (n := 4) j
  · subst h
    rw [Function.update_self]
    have := View.write_emb_of_mem (v := mW.access (wR j)) (Val := Elt F) f (fun _ => v) (Finset.mem_univ (fun a => ⟨0, by fin_cases a; exact Nat.one_pos⟩))
    rw [wR_emb] at this
    exact this
  · rw [Function.update_of_ne h]
    refine View.write_of_not_mem _ _ _ fun hm => h ?_
    obtain ⟨x, -, hx⟩ := Finset.mem_map.mp hm
    exact hx.symm.trans (wR_emb j x)

/-- The load of word `j`; -/
theorem word_ld {Q : α → sProp 𝕄} (j : Fin 4) {h1 : (wR j).shape.numel = 1} {hp : EltTy.f32.packing = 1}
    {k : Elt F .f32 → Prog (TpuEff nD τ sig (Elt F) Λ₀ .tc) α} {f : S4.Idx → Elt F .f32} :
    (((c : Thread nD τ).loc cc0_scratch10 ↦{fullShare} f : sProp 𝕄))
      ⊢ iprop((((c : Thread nD τ).loc cc0_scratch10 ↦{fullShare} f) -∗ wp frame (wpE (defs₀ (F := F)) 𝒱₀ (c : Thread nD τ) none) Set.univ (k (f (ix1 (n := 4) j))) Q)
        -∗ wp frame (wpE (defs₀ (F := F)) 𝒱₀ (c : Thread nD τ) none) Set.univ (smemLoad mW (wR j) h1 hp >>= k) Q) := by
  unfold smemLoad smemLoadElt
  simp only [Prog.bind_op, Prog.bind_ret]
  rw [← word_read j f (Shape.Idx.first (h1.symm ▸ Nat.one_pos))]
  exact wp_load_rect 𝒱₀ (c : Thread nD τ) none Set.univ (m := mW) (r := wR j) (k := fun g => k (g _)) (Finset.subset_univ _)
/-- the store of it. -/
theorem word_st {Q : α → sProp 𝕄} (j : Fin 4) {v : Elt F .f32} {hx : (mW.access (wR j)).Stores Finset.univ} {hm : _}
    {k : PUnit → Prog (TpuEff nD τ sig (Elt F) Λ₀ .tc) α} {f : S4.Idx → Elt F .f32} :
    (((c : Thread nD τ).loc cc0_scratch10 ↦{fullShare} f : sProp 𝕄))
      ⊢ iprop((((c : Thread nD τ).loc cc0_scratch10 ↦{fullShare} Function.update f (ix1 (n := 4) j) v)
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.store mW (wR j) (fun _ => v) Finset.univ hx hm) >>= k) Q) := by
  rw [← word_write]
  exact st_step c (b := mW) (r := wR j) (w := fun _ => v) (Finset.subset_univ _)

/-! ## The tiles of the product -/

/-- Tile `n` of the product's buffer. -/
def tile (f : S32x1024x256.Idx → Elt F .f32) (n : Fin 32) : Vec F S1x1024x256 .f32 := yW.view.readAt (Elt F) (yR n).toLoadRect f
/-- The buffer with tile `n` written. -/
def setTile (f : S32x1024x256.Idx → Elt F .f32) (n : Fin 32) (v : Vec F S1x1024x256 .f32) : S32x1024x256.Idx → Elt F .f32 :=
  (yW.access (yR n)).write (Elt F) f v Finset.univ

theorem mem_yR (n : Fin 32) (i : S32x1024x256.Idx) (h : i ∈ (yW.access (yR n)).set) : (i 0).val = n.val := by
  have h' : (yW.access (yR n)).set = (yR n).set := View.set_slice_whole cc0_scratch1 (yR n)
  rw [h', Rect.mem_set_unit] at h
  have := h 0
  change n.val ≤ (i 0).val ∧ (i 0).val < n.val + 1 at this
  omega

theorem tile_set (f : S32x1024x256.Idx → Elt F .f32) (n : Fin 32) (v : Vec F S1x1024x256 .f32) : tile (setTile f n v) n = v := by
  unfold tile setTile
  rw [View.readAt_rect]
  exact View.read_write_univ (v := yW.view.slice (yR n)) (Val := Elt F) f v
theorem tile_set_ne (f : S32x1024x256.Idx → Elt F .f32) {n n' : Fin 32} (v : Vec F S1x1024x256 .f32) (h : n' ≠ n) :
    tile (setTile f n v) n' = tile f n' := by
  unfold tile setTile
  rw [View.readAt_rect, View.readAt_rect]
  exact View.read_slice_write_slice_of_disjoint (v := yW.view) (Val := Elt F) (yR n') (yR n) f v Finset.univ
    (Finset.disjoint_left.mpr fun i hi hi' => h (Fin.ext ((mem_yR n' i hi).symm.trans (mem_yR n i hi'))))

/-- The load of tile `n`, its offset as the program gives it; -/
theorem tile_ld {Q : α → sProp 𝕄} (n : Fin 32) {off : Fin 3 → ℕ} (ho : off = ![n.val, 0, 0])
    {inb : ∀ a, off a + S1x1024x256.size a ≤ S32x1024x256.size a} {hl : _}
    {k : Vec F S1x1024x256 .f32 → Prog (TpuEff nD τ sig (Elt F) Λ₀ .tc) α} {f : S32x1024x256.Idx → Elt F .f32} :
    (((c : Thread nD τ).loc cc0_scratch1 ↦{fullShare} f : sProp 𝕄))
      ⊢ iprop((((c : Thread nD τ).loc cc0_scratch1 ↦{fullShare} f) -∗ wp frame (wpE (defs₀ (F := F)) 𝒱₀ (c : Thread nD τ) none) Set.univ (k (tile f n)) Q)
        -∗ wp frame (wpE (defs₀ (F := F)) 𝒱₀ (c : Thread nD τ) none) Set.univ
          (Prog.lift (.load yW (Rect.unit (s := S32x1024x256) off S1x1024x256.size inb).toLoadRect hl) >>= k) Q) := by
  subst ho
  exact ld_step c (b := yW) (r := (yR n).toLoadRect) (Finset.subset_univ _)
/-- the store of it. -/
theorem tile_st {Q : α → sProp 𝕄} (n : Fin 32) {off : Fin 3 → ℕ} (ho : off = ![n.val, 0, 0])
    {inb : ∀ a, off a + S1x1024x256.size a ≤ S32x1024x256.size a} {v : Vec F S1x1024x256 .f32} {hx : _} {hm : _}
    {k : PUnit → Prog (TpuEff nD τ sig (Elt F) Λ₀ .tc) α} {f : S32x1024x256.Idx → Elt F .f32} :
    (((c : Thread nD τ).loc cc0_scratch1 ↦{fullShare} f : sProp 𝕄))
      ⊢ iprop((((c : Thread nD τ).loc cc0_scratch1 ↦{fullShare} setTile f n v) -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store yW (Rect.unit (s := S32x1024x256) off S1x1024x256.size inb) v Finset.univ hx hm) >>= k) Q) := by
  subst ho
  exact st_step c (b := yW) (r := yR n) (w := v) (Finset.subset_univ _)

/-! ## Buffers accessed whole -/

theorem zero2 : (![0, 0] : Fin 2 → ℕ) = fun _ => 0 := by decide
theorem zero3 : (![0, 0, 0] : Fin 3 → ℕ) = fun _ => 0 := by decide

/-- The load of the outgoing maximum block; -/
theorem smax_ld {Q : α → sProp 𝕄} {inb : ∀ a, (![0, 0] : Fin 2 → ℕ) a + S8x128.size a ≤ S8x128.size a} {hl : _} {q : PosShare TreeShare}
    {k : (S8x128.Idx → Elt F .f32) → Prog (TpuEff nD τ sig (Elt F) Λ₀ .tc) α} {f : S8x128.Idx → Elt F .f32} :
    (((c : Thread nD τ).loc cc0_scratch6 ↦{q} f : sProp 𝕄))
      ⊢ iprop((((c : Thread nD τ).loc cc0_scratch6 ↦{q} f) -∗ wp frame (wpE (defs₀ (F := F)) 𝒱₀ (c : Thread nD τ) none) Set.univ (k f) Q)
        -∗ wp frame (wpE (defs₀ (F := F)) 𝒱₀ (c : Thread nD τ) none) Set.univ
          (Prog.lift (.load sW (Rect.unit (s := S8x128) ![0, 0] S8x128.size inb).toLoadRect hl) >>= k) Q) := by
  have := ld_step (F := F) c (Q := Q) (b := sW) (r := (Rect.unit (s := S8x128) ![0, 0] S8x128.size inb).toLoadRect) (hl := hl) (k := k) (q := q) (f := f)
    (Finset.subset_univ _)
  rw [show sW.view.readAt (Elt F) (Rect.unit (s := S8x128) ![0, 0] S8x128.size inb).toLoadRect f = f from
    Memref.readAt_unit_zero (Elt F) cc0_scratch6 zero2 inb f] at this
  exact this
/-- the store of it. -/
theorem smax_st {Q : α → sProp 𝕄} {inb : ∀ a, (![0, 0] : Fin 2 → ℕ) a + S8x128.size a ≤ S8x128.size a} {hx : _} {hm : _}
    {k : PUnit → Prog (TpuEff nD τ sig (Elt F) Λ₀ .tc) α} {f v : S8x128.Idx → Elt F .f32} :
    (((c : Thread nD τ).loc cc0_scratch6 ↦{fullShare} f : sProp 𝕄))
      ⊢ iprop((((c : Thread nD τ).loc cc0_scratch6 ↦{fullShare} v) -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store sW (Rect.unit (s := S8x128) ![0, 0] S8x128.size inb) v Finset.univ hx hm) >>= k) Q) := by
  have := st_step (F := F) c (Q := Q) (b := sW) (r := Rect.unit (s := S8x128) ![0, 0] S8x128.size inb) (w := v) (hx := hx) (hm := hm) (k := k) (f := f)
    (Finset.subset_univ _)
  rw [show (sW.access (Rect.unit (s := S8x128) ![0, 0] S8x128.size inb)).write (Elt F) f v Finset.univ = v from
    Memref.write_access_unit_zero_univ (Elt F) cc0_scratch6 zero2 inb f v] at this
  exact this
/-- The load of the factor of the product; -/
theorem xb_ld {Q : α → sProp 𝕄} {inb : ∀ a, (![0, 0] : Fin 2 → ℕ) a + S1024x1024.size a ≤ S1024x1024.size a} {hl : _} {q : PosShare TreeShare}
    {k : (S1024x1024.Idx → Elt F .bf16) → Prog (TpuEff nD τ sig (Elt F) Λ₀ .tc) α} {f : S1024x1024.Idx → Elt F .bf16} :
    (((c : Thread nD τ).loc cc0_scratch2 ↦{q} f : sProp 𝕄))
      ⊢ iprop((((c : Thread nD τ).loc cc0_scratch2 ↦{q} f) -∗ wp frame (wpE (defs₀ (F := F)) 𝒱₀ (c : Thread nD τ) none) Set.univ (k f) Q)
        -∗ wp frame (wpE (defs₀ (F := F)) 𝒱₀ (c : Thread nD τ) none) Set.univ
          (Prog.lift (.load bW (Rect.unit (s := S1024x1024) ![0, 0] S1024x1024.size inb).toLoadRect hl) >>= k) Q) := by
  have := ld_step (F := F) c (Q := Q) (b := bW) (r := (Rect.unit (s := S1024x1024) ![0, 0] S1024x1024.size inb).toLoadRect) (hl := hl) (k := k) (q := q) (f := f)
    (Finset.subset_univ _)
  rw [show bW.view.readAt (Elt F) (Rect.unit (s := S1024x1024) ![0, 0] S1024x1024.size inb).toLoadRect f = f from
    Memref.readAt_unit_zero (Elt F) cc0_scratch2 zero2 inb f] at this
  exact this
/-- the store of it. -/
theorem xb_st {Q : α → sProp 𝕄} {inb : ∀ a, (![0, 0] : Fin 2 → ℕ) a + S1024x1024.size a ≤ S1024x1024.size a} {hx : _} {hm : _}
    {k : PUnit → Prog (TpuEff nD τ sig (Elt F) Λ₀ .tc) α} {f v : S1024x1024.Idx → Elt F .bf16} :
    (((c : Thread nD τ).loc cc0_scratch2 ↦{fullShare} f : sProp 𝕄))
      ⊢ iprop((((c : Thread nD τ).loc cc0_scratch2 ↦{fullShare} v) -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store bW (Rect.unit (s := S1024x1024) ![0, 0] S1024x1024.size inb) v Finset.univ hx hm) >>= k) Q) := by
  have := st_step (F := F) c (Q := Q) (b := bW) (r := Rect.unit (s := S1024x1024) ![0, 0] S1024x1024.size inb) (w := v) (hx := hx) (hm := hm) (k := k) (f := f)
    (Finset.subset_univ _)
  rw [show (bW.access (Rect.unit (s := S1024x1024) ![0, 0] S1024x1024.size inb)).write (Elt F) f v Finset.univ = v from
    Memref.write_access_unit_zero_univ (Elt F) cc0_scratch2 zero2 inb f v] at this
  exact this
/-- The load of all the gathered maxima. -/
theorem rmax_ld {Q : α → sProp 𝕄} {inb : ∀ a, (![0, 0, 0] : Fin 3 → ℕ) a + S4x8x128.size a ≤ S4x8x128.size a} {hl : _} {q : PosShare TreeShare}
    {k : (S4x8x128.Idx → Elt F .f32) → Prog (TpuEff nD τ sig (Elt F) Λ₀ .tc) α} {f : S4x8x128.Idx → Elt F .f32} :
    (((c : Thread nD τ).loc cc0_scratch7 ↦{q} f : sProp 𝕄))
      ⊢ iprop((((c : Thread nD τ).loc cc0_scratch7 ↦{q} f) -∗ wp frame (wpE (defs₀ (F := F)) 𝒱₀ (c : Thread nD τ) none) Set.univ (k f) Q)
        -∗ wp frame (wpE (defs₀ (F := F)) 𝒱₀ (c : Thread nD τ) none) Set.univ
          (Prog.lift (.load rW (Rect.unit (s := S4x8x128) ![0, 0, 0] S4x8x128.size inb).toLoadRect hl) >>= k) Q) := by
  have := ld_step (F := F) c (Q := Q) (b := rW) (r := (Rect.unit (s := S4x8x128) ![0, 0, 0] S4x8x128.size inb).toLoadRect) (hl := hl) (k := k) (q := q) (f := f)
    (Finset.subset_univ _)
  rw [show rW.view.readAt (Elt F) (Rect.unit (s := S4x8x128) ![0, 0, 0] S4x8x128.size inb).toLoadRect f = f from
    Memref.readAt_unit_zero (Elt F) cc0_scratch7 zero3 inb f] at this
  exact this

/-- The load of a whole staging buffer, held as it reads; -/
theorem win_ld {Q : α → sProp 𝕄} {b : Memref sig .tc .vmem S1024x256 .f32} (hb : b.IsWhole) {inb : ∀ a, (![0, 0] : Fin 2 → ℕ) a + S1024x256.size a ≤ S1024x256.size a} {hl : _}
    {k : Vec F S1024x256 .f32 → Prog (TpuEff nD τ sig (Elt F) Λ₀ .tc) α} {X : Vec F S1024x256 .f32} :
    owns (Ix := Unit) (Name := ℕ) (U := UU) (Lvl := ℕ) (c : Thread nD τ) b fullShare X
      ⊢ iprop((owns (Ix := Unit) (Name := ℕ) (U := UU) (Lvl := ℕ) (c : Thread nD τ) b fullShare X
          -∗ wp frame (wpE (defs₀ (F := F)) 𝒱₀ (c : Thread nD τ) none) Set.univ (k X) Q)
        -∗ wp frame (wpE (defs₀ (F := F)) 𝒱₀ (c : Thread nD τ) none) Set.univ
          (Prog.lift (.load b (Rect.unit (s := S1024x256) ![0, 0] S1024x256.size inb).toLoadRect hl) >>= k) Q) := by
  have hr : ∀ f, b.view.readAt (Elt F) (Rect.unit (s := S1024x256) ![0, 0] S1024x256.size inb).toLoadRect f = b.view.read (Elt F) f := by
    intro f
    funext x
    rw [View.readAt_apply]
    congr 1
    funext a
    refine Fin.ext ?_
    fin_cases a
    · show 0 + 1 * (x 0).val = (x 0).val; omega
    · show 0 + 1 * (x 1).val = (x 1).val; omega
  unfold owns
  iintro ⟨%f, %hf, H⟩ Hk
  subst hf
  iapply (ld_step (F := F) c (b := b) (r := (Rect.unit (s := S1024x256) ![0, 0] S1024x256.size inb).toLoadRect) (S := b.view.set)
    (by rw [← View.setOn_univ]; exact Finset.map_subset_map.mpr (Finset.subset_univ _))) $$ H
  iintro H
  irw [hr f]
  iapply Hk
  iexists f
  isplitr; · ipureintro; rfl
  iexact H
/-- the store of one. -/
theorem win_st {Q : α → sProp 𝕄} {b : Memref sig .tc .vmem S1024x256 .f32} (hb : b.IsWhole) {inb : ∀ a, (![0, 0] : Fin 2 → ℕ) a + S1024x256.size a ≤ S1024x256.size a} {hx : _} {hm : _}
    {k : PUnit → Prog (TpuEff nD τ sig (Elt F) Λ₀ .tc) α} {X v : Vec F S1024x256 .f32} :
    owns (Ix := Unit) (Name := ℕ) (U := UU) (Lvl := ℕ) (c : Thread nD τ) b fullShare X
      ⊢ iprop((owns (Ix := Unit) (Name := ℕ) (U := UU) (Lvl := ℕ) (c : Thread nD τ) b fullShare v
          -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store b (Rect.unit (s := S1024x256) ![0, 0] S1024x256.size inb) v Finset.univ hx hm) >>= k) Q) := by
  have hw : ∀ f, b.view.read (Elt F) ((b.access (Rect.unit (s := S1024x256) ![0, 0] S1024x256.size inb)).write (Elt F) f v Finset.univ) = v := by
    intro f
    funext x
    have he : (Rect.unit (s := S1024x256) ![0, 0] S1024x256.size inb).emb x = x := by
      funext a
      refine Fin.ext ?_
      fin_cases a
      · show 0 + 1 * (x 0).val = (x 0).val; omega
      · show 0 + 1 * (x 1).val = (x 1).val; omega
    have := View.read_slice_write_emb (v := b.view) (Val := Elt F) (Rect.unit (s := S1024x256) ![0, 0] S1024x256.size inb) f v (M := Finset.univ) (x := x) (Finset.mem_univ _)
    rwa [he] at this
  unfold owns
  iintro ⟨%f, %hf, H⟩ Hk
  iapply (st_step (F := F) c (b := b) (r := Rect.unit (s := S1024x256) ![0, 0] S1024x256.size inb) (w := v) (S := b.view.set) (f := f)
    (by rw [View.setOn_univ]; exact View.set_slice_subset _ _)) $$ H
  iintro H
  iapply Hk
  iexists ((b.access (Rect.unit (s := S1024x256) ![0, 0] S1024x256.size inb)).write (Elt F) f v Finset.univ)
  isplitr; · ipureintro; exact hw f
  iexact H

/-! ## A device's own slot of the gathered maxima -/

/-- The load of a device's own slot; -/
theorem slot_ld {Q : α → sProp 𝕄} {off : Fin 3 → ℕ} (ho : off = ![c.val, 0, 0])
    {inb : ∀ a, off a + S1x8x128.size a ≤ S4x8x128.size a} {hl : _}
    {k : Vec F S1x8x128 .f32 → Prog (TpuEff nD τ sig (Elt F) Λ₀ .tc) α} {f : S4x8x128.Idx → Elt F .f32} :
    rPts c c f
      ⊢ iprop((rPts c c f -∗ wp frame (wpE (defs₀ (F := F)) 𝒱₀ (c : Thread nD τ) none) Set.univ (k (rW.view.readAt (Elt F) (rR c).toLoadRect f)) Q)
        -∗ wp frame (wpE (defs₀ (F := F)) 𝒱₀ (c : Thread nD τ) none) Set.univ
          (Prog.lift (.load rW (Rect.unit (s := S4x8x128) off S1x8x128.size inb).toLoadRect hl) >>= k) Q) := by
  subst ho
  unfold rPts
  exact ld_step c (b := rW) (r := (rR c).toLoadRect) (by
    rw [show (rM c).view.set = (rW.view.slice (rR c)).set from View.set_reshape _ _, View.set_slice]
    exact subset_rfl)
/-- the store of the device's block there. -/
theorem slot_st {Q : α → sProp 𝕄} {off : Fin 3 → ℕ} (ho : off = ![c.val, 0, 0])
    {inb : ∀ a, off a + S1x8x128.size a ≤ S4x8x128.size a} {hx : _} {hm : _}
    {k : PUnit → Prog (TpuEff nD τ sig (Elt F) Λ₀ .tc) α} {f : S4x8x128.Idx → Elt F .f32} :
    rPts c c f
      ⊢ iprop((rPts c c (amaxC m) -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store rW (Rect.unit (s := S4x8x128) off S1x8x128.size inb) (k0_pay12 (aBuf m c)) Finset.univ hx hm) >>= k) Q) := by
  subst ho
  have he : rPts c c (amaxC m) = iprop((rM c).view.loc (c : Thread nD τ) ↦[(rM c).view.set]{fullShare}
      ((rW.access (rR c)).write (Elt F) f (k0_pay12 (aBuf m c)) Finset.univ)) := by
    unfold rPts
    exact (pointsTo_congr (stored_a m c f)).symm
  rw [he]
  unfold rPts
  exact st_step c (b := rW) (r := rR c) (w := k0_pay12 (aBuf m c)) (by
    rw [View.setOn_univ, show (rM c).view.set = (rW.view.slice (rR c)).set from View.set_reshape _ _])

end Steps

end Cert.KernelIdealProof

end
-- ==== Proof.KernelIdealMaxima.lean ====
/-
# The exchange of the maxima

Every device sends the largest magnitude of its columns' product to the three others and, having theirs, computes the
common scale.
-/
module

public import proofs.«01_k».proof.Proof.KernelIdealExchange
public import proofs.«01_k».proof.Proof.KernelIdealAccess

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- A device's outgoing maximum block is held in quarter shares, one for each partner. -/
theorem a_shares (c : Dev nD) :
    ((((c : Thread nD τ).loc cc0_scratch6) ↦{fullShare} aBuf m c : sProp 𝕄)) = bigSep Finset.univ fun j => aPts m c j := by
  unfold aPts
  rw [show sW.view.set = Finset.univ from View.set_whole cc0_scratch6]
  exact ShareLeaves.pointsTo_leaves (ℓ := (c : Thread nD τ).loc cc0_scratch6) Finset.univ (aBuf m c) 2 fullShare

set_option maxHeartbeats 2000000 in
/-- The exchange of the maxima: afterwards device `c` holds all four devices' blocks, and the two words computed from
    them. -/
theorem stageX_sound (K : Dev nD × CK → ℕ) (i : grid0.Coords) (h25 : k0_cond25 i = 1#1) (h26 : k0_cond26 i = 1#1) (c : Dev nD)
    (arg3 : Memref sig .tc .vmem S1024x256 .f32) (harg3 : arg3.IsWhole) (arg4 : Memref sig .tc .vmem S1024x256 .f32) (harg4 : arg4.IsWhole)
    (k : Prog (TpuEff nD τ sig (Elt F) Λ₀ .tc) PUnit) {Q : PUnit → sProp 𝕄} (fw : S4.Idx → Elt F .f32) (hfw : fw (ix1 (n := 4) 0) = locM m c 31) :
    iprop(recs m K ∗ levAts L lv ∗ ow c (owA c 4) ∗ exX c
        ∗ (((c : Thread nD τ).loc cc0_scratch10) ↦{fullShare} fw)
        ∗ (∃ f : S8x128.Idx → Elt F .f32, ((c : Thread nD τ).loc cc0_scratch6) ↦{fullShare} f)
        ∗ (∃ f, rPts c c f)
        ∗ (bigSep Finset.univ fun j : Fin 4 => peer c j (iprop(∃ f, rPts j c f))))
      ⊢ iprop(((ow c (owA c 0) ∗ exX' c
            ∗ (((c : Thread nD τ).loc cc0_scratch10) ↦{fullShare}
                Function.update (Function.update fw (ix1 (n := 4) 1) (k0_pay8 (amaxC m))) (ix1 (n := 4) 2) (k0_pay9 (amaxC m)))
            ∗ (((c : Thread nD τ).loc cc0_scratch6) ↦{fullShare} aBuf m c)
            ∗ (((c : Thread nD τ).loc cc0_scratch7) ↦{fullShare} amaxC m))
          -∗ wp frame (wpE (defs₀ (F := F)) 𝒱₀ (c : Thread nD τ) none) Set.univ k Q)
        -∗ wp frame (wpE (defs₀ (F := F)) 𝒱₀ (c : Thread nD τ) none) Set.univ (stageX i c arg3 harg3 arg4 harg4 h25 k) Q) := by
  have hv : k0_pay11 (fw (ix1 (n := 4) 0)) = aBuf m c := by rw [hfw]; rfl
  unfold stageX
  rw [dif_pos h26, wp_bind, k0_part2_eq_skeleton]
  unfold k0_part2_skel exX
  iintro ⟨#Hr, #Hl, HO, ⟨Has, Har, Hts, Htr, Hcr⟩, Hw, ⟨%fs, Hs⟩, ⟨%fm, Hmo⟩, Hq⟩ Hk
  ihave Has := (Entails.of_eq (bigSep_fin4 _)) $$ Has; icases Has with ⟨Has0, Has1, Has2, Has3⟩
  ihave Har := (Entails.of_eq (bigSep_fin4 _)) $$ Har; icases Har with ⟨Har0, Har1, Har2, Har3⟩
  ihave Hts := (Entails.of_eq (bigSep_fin4 _)) $$ Hts; icases Hts with ⟨Hts0, Hts1, Hts2, Hts3⟩
  ihave Htr := (Entails.of_eq (bigSep_fin4 _)) $$ Htr; icases Htr with ⟨Htr0, Htr1, Htr2, Htr3⟩
  ihave Hcr := (Entails.of_eq (bigSep_fin4 _)) $$ Hcr; icases Hcr with ⟨Hcr0, Hcr1, Hcr2, Hcr3⟩
  ihave Hq := (Entails.of_eq (bigSep_fin4 _)) $$ Hq; icases Hq with ⟨Hq0, Hq1, Hq2, Hq3⟩
  -- the device's own block
  iapply (word_ld c 0) $$ Hw; iintro Hw
  irw [hv]
  iapply (smax_ld c) $$ Hs; iintro Hs
  iapply (smax_st c (v := aBuf m c)) $$ [Hs]
  · iexact Hs
  iintro Hs
  iapply (smax_ld c) $$ Hs; iintro Hs
  iapply (slot_ld c (k0_off19_eq c)) $$ Hmo; iintro Hmo
  iapply (slot_st m c (k0_off19_eq c)) $$ Hmo; iintro Hmo
  ihave Hs := (Entails.of_eq ((a_shares m c).trans (bigSep_own c _))) $$ Hs
  icases Hs with ⟨Hso, Hs⟩
  ihave Hs := (Entails.of_eq (bigSep_fin4 _)) $$ Hs; icases Hs with ⟨Hs0, Hs1, Hs2, Hs3⟩
  -- sent to the others
  iapply (asend_at m K c 0 (place27 c) k0_dev9_eq (k0_off21_eq c) rfl (k0_off20_eq c) (O₁ := owA c 4) (owA c 3) rfl)
    $$ [HO Hs0 Hq0 Hts0 Htr0]
  · iframe Hr HO Hs0 Hq0 Hts0 Htr0
  iintro ⟨HO, Hcs0⟩
  iapply (asend_at m K c 1 (place28 c) k0_dev10_eq (k0_off23_eq c) rfl (k0_off22_eq c) (O₁ := owA c 3) (owA c 2) rfl)
    $$ [HO Hs1 Hq1 Hts1 Htr1]
  · iframe Hr HO Hs1 Hq1 Hts1 Htr1
  iintro ⟨HO, Hcs1⟩
  iapply (asend_at m K c 2 (place29 c) k0_dev11_eq (k0_off25_eq c) rfl (k0_off24_eq c) (O₁ := owA c 2) (owA c 1) rfl)
    $$ [HO Hs2 Hq2 Hts2 Htr2]
  · iframe Hr HO Hs2 Hq2 Hts2 Htr2
  iintro ⟨HO, Hcs2⟩
  iapply (asend_at m K c 3 (place30 c) k0_dev12_eq (k0_off27_eq c) rfl (k0_off26_eq c) (O₁ := owA c 1) (owA c 0) rfl)
    $$ [HO Hs3 Hq3 Hts3 Htr3]
  · iframe Hr HO Hs3 Hq3 Hts3 Htr3
  iintro ⟨HO, Hcs3⟩
  -- the others' blocks
  iapply (arecv_at m K c 0 (word0 c) rfl rfl (O := owA c 0) (Above.zero _)) $$ [HO Hcr0 Har0]
  · unfold wPre; iframe Hr Hl HO Hcr0 Har0
  unfold wPost
  iintro ⟨HO, Hvr0, Hm0⟩
  iapply (arecv_at m K c 1 (word1 c) rfl rfl (O := owA c 0) (Above.zero _)) $$ [HO Hcr1 Har1]
  · unfold wPre; iframe Hr Hl HO Hcr1 Har1
  unfold wPost
  iintro ⟨HO, Hvr1, Hm1⟩
  irw [Prog.pure_eq_ret, wp_ret]
  imodintro
  iapply (arecv_at m K c 2 (word2 c) rfl rfl (O := owA c 0) (Above.zero _)) $$ [HO Hcr2 Har2]
  · unfold wPre; iframe Hr Hl HO Hcr2 Har2
  unfold wPost
  iintro ⟨HO, Hvr2, Hm2⟩
  iapply (arecv_at m K c 3 (word3 c) rfl rfl (O := owA c 0) (Above.zero _)) $$ [HO Hcr3 Har3]
  · unfold wPre; iframe Hr Hl HO Hcr3 Har3
  unfold wPost
  iintro ⟨HO, Hvr3, Hm3⟩
  -- and the own have left
  iapply (asent_at m K c 0 (place35 c) rfl (O := owA c 0) (Above.zero _)) $$ [HO Hcs0 Has0]
  · unfold wPre; iframe Hr Hl HO Hcs0 Has0
  unfold wPost
  iintro ⟨HO, Hvs0, Hs0⟩
  iapply (asent_at m K c 1 (place36 c) rfl (O := owA c 0) (Above.zero _)) $$ [HO Hcs1 Has1]
  · unfold wPre; iframe Hr Hl HO Hcs1 Has1
  unfold wPost
  iintro ⟨HO, Hvs1, Hs1⟩
  iapply (asent_at m K c 2 (place37 c) rfl (O := owA c 0) (Above.zero _)) $$ [HO Hcs2 Has2]
  · unfold wPre; iframe Hr Hl HO Hcs2 Has2
  unfold wPost
  iintro ⟨HO, Hvs2, Hs2⟩
  iapply (asent_at m K c 3 (place38 c) rfl (O := owA c 0) (Above.zero _)) $$ [HO Hcs3 Has3]
  · unfold wPre; iframe Hr Hl HO Hcs3 Has3
  unfold wPost
  iintro ⟨HO, Hvs3, Hs3⟩
  unfold payQ
  ihave Hm : ((c : Thread nD τ).loc cc0_scratch7 ↦{fullShare} amaxC m) $$ [Hmo Hm0 Hm1 Hm2 Hm3]
  · irw [r_blocks, bigSep_own c (fun j => rPts c j (amaxC m)), bigSep_fin4 fun j => peer c j (rPts c j (amaxC m))]
    iframe Hmo Hm0 Hm1 Hm2 Hm3
  -- the two words
  iapply (rmax_ld c) $$ Hm; iintro Hm
  iapply (word_ld c 1) $$ Hw; iintro Hw
  iapply (word_st c 1) $$ Hw; iintro Hw
  iapply (word_ld c 2) $$ Hw; iintro Hw
  iapply (word_st c 2) $$ Hw; iintro Hw
  iapply Hk
  unfold exX'
  irw [a_shares, bigSep_own c (fun j => aPts m c j), bigSep_fin4 fun j => peer c j (aPts m c j)]
  irw [bigSep_fin4 fun j => semVal (xCell 2 c j) 0, bigSep_fin4 fun j => semVal (xCell 3 c j) 0]
  iframe HO Hvs0 Hvs1 Hvs2 Hvs3 Hvr0 Hvr1 Hvr2 Hvr3 Hw Hso Hs0 Hs1 Hs2 Hs3 Hm

end Cert.KernelIdealProof

end
-- ==== Proof.KernelIdealTiles.lean ====
/-
# The product, tile by tile, and the result tiles

At the first four values of the outer coordinate the body accumulates a tile of the device's product and, at the last of
them, the running largest magnitude; at the fifth it writes the tiles of the result.
-/
module

public import proofs.«01_k».proof.Proof.KernelIdealAccess

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The program's conditions on the grid point -/

theorem at_first : ∀ i : grid0.Coords, k0_cond1 i = 1#1 ↔ ((i 0).val = 0 ∧ (i 1).val = 0) := by decide +kernel
theorem at_prod : ∀ i : grid0.Coords, k0_cond18 i = 1#1 ↔ (i 0).val < 4 := by decide +kernel
theorem at_row : ∀ i : grid0.Coords, k0_cond19 i = 1#1 ↔ (i 1).val = 0 := by decide +kernel
theorem at_zero : ∀ i : grid0.Coords, k0_cond20 i = 1#1 ↔ (i 0).val = 0 := by decide +kernel
theorem at_pos : ∀ i : grid0.Coords, k0_cond21 i = 1#1 ↔ 0 < (i 0).val := by decide +kernel
theorem at_three : ∀ i : grid0.Coords, k0_cond22 i = 1#1 ↔ (i 0).val = 3 := by decide +kernel
theorem at_out : ∀ i : grid0.Coords, k0_cond25 i = 1#1 ↔ (i 0).val = 4 := by decide +kernel
theorem at_row' : ∀ i : grid0.Coords, k0_cond26 i = 1#1 ↔ (i 1).val = 0 := by decide +kernel
theorem word_zero : ∀ i : grid0.Coords,
    Scalar.cmpi .ne (Scalar.extui (Scalar.cmpi .eq (BitVec.ofNat 32 (i 1).val) 0#32) : BitVec 32) 0#32 = 1#1 ↔ (i 1).val = 0 := by
  decide +kernel
theorem word_pos : ∀ i : grid0.Coords,
    Scalar.cmpi .ne (Scalar.extui (Scalar.cmpi .sgt (BitVec.ofNat 32 (i 1).val) 0#32) : BitVec 32) 0#32 = 1#1 ↔ 0 < (i 1).val := by
  decide +kernel

/-- The tile and the slot of a grid point. -/
abbrev tn (i : grid0.Coords) : Fin 32 := i 1
abbrev tp (i : grid0.Coords) : Fin 4 := Fin.ofNat 4 (i 0).val
theorem tp_val (i : grid0.Coords) (h : (i 0).val < 4) : (tp i).val = (i 0).val := Nat.mod_eq_of_lt h

/-! ## What one point does to the product and to the running maximum -/

/-- The buffer of the product after a point, the staged block of `w` and the factor given. -/
def yStep (p : ℕ) (n : Fin 32) (X : Vec F S1024x256 .f32) (xb : FVec F S1024x1024 .bf16) (f : S32x1024x256.Idx → Elt F .f32) :
    S32x1024x256.Idx → Elt F .f32 :=
  if p = 0 then setTile f n (k0_pay3 X xb) else setTile f n (k0_pay4 X xb (tile f n))
/-- The words after it, the tile given. -/
def wStep (p : ℕ) (n : Fin 32) (T : Vec F S1x1024x256 .f32) (g : S4.Idx → Elt F .f32) : S4.Idx → Elt F .f32 :=
  if p = 3 then Function.update g (ix1 (n := 4) 0) (if n.val = 0 then k0_pay5 T else k0_pay6 T (g (ix1 (n := 4) 0))) else g

section Blocks
variable (i : grid0.Coords) (c : Dev nD) {k : Prog (TpuEff nD τ sig (Elt F) Λ₀ .tc) PUnit}

/-- A condition known to hold, or not to. -/
theorem wp_pos {Q : PUnit → sProp 𝕄} {P : Prop} [Decidable P] (hP : P) {t : P → Prog (TpuEff nD τ sig (Elt F) Λ₀ .tc) PUnit} {e : ¬ P → Prog (TpuEff nD τ sig (Elt F) Λ₀ .tc) PUnit} :
    (wp frame (wpE (defs₀ (F := F)) 𝒱₀ (c : Thread nD τ) none) Set.univ (t hP) Q : sProp 𝕄) ⊢ wp frame (wpE (defs₀ (F := F)) 𝒱₀ (c : Thread nD τ) none) Set.univ (if h : P then t h else e h) Q := by rw [dif_pos hP]
theorem wp_neg {Q : PUnit → sProp 𝕄} {P : Prop} [Decidable P] (hP : ¬ P) {t : P → Prog (TpuEff nD τ sig (Elt F) Λ₀ .tc) PUnit} {e : ¬ P → Prog (TpuEff nD τ sig (Elt F) Λ₀ .tc) PUnit} :
    (wp frame (wpE (defs₀ (F := F)) 𝒱₀ (c : Thread nD τ) none) Set.univ (e hP) Q : sProp 𝕄) ⊢ wp frame (wpE (defs₀ (F := F)) 𝒱₀ (c : Thread nD τ) none) Set.univ (if h : P then t h else e h) Q := by rw [dif_neg hP]

/-- The load of slot `j` of the gathered blocks. -/
theorem comm_ld {Q : PUnit → sProp 𝕄} (j : Fin 4) {off : Fin 3 → ℕ} (ho : off = ![j.val, 0, 0])
    {inb : ∀ a, off a + S1x1024x1024.size a ≤ S4x1024x1024.size a} {hl : _}
    {k : Vec F S1x1024x1024 .f32 → Prog (TpuEff nD τ sig (Elt F) Λ₀ .tc) PUnit} {f : S4x1024x1024.Idx → Elt F .f32} :
    (((c : Thread nD τ).loc cc0_scratch0 ↦{fullShare} f : sProp 𝕄))
      ⊢ iprop((((c : Thread nD τ).loc cc0_scratch0 ↦{fullShare} f) -∗ wp frame (wpE (defs₀ (F := F)) 𝒱₀ (c : Thread nD τ) none) Set.univ (k (cW.view.readAt (Elt F) (cR j).toLoadRect f)) Q)
        -∗ wp frame (wpE (defs₀ (F := F)) 𝒱₀ (c : Thread nD τ) none) Set.univ (Prog.lift (.load cW (Rect.unit (s := S4x1024x1024) off S1x1024x1024.size inb).toLoadRect hl) >>= k) Q) := by
  subst ho
  exact ld_step c (b := cW) (r := (cR j).toLoadRect) (Finset.subset_univ _)

/-- The factor of the product is loaded at the first tile of each slot. -/
theorem blk_x (h18 : k0_cond18 i = 1#1) {Q : PUnit → sProp 𝕄} (fb : S1024x1024.Idx → Elt F .bf16) (hfb : (i 1).val ≠ 0 → fb = xbC m c (tp i)) :
    iprop((((c : Thread nD τ).loc cc0_scratch0) ↦{fullShare} commC m c) ∗ (((c : Thread nD τ).loc cc0_scratch2) ↦{fullShare} fb))
      ⊢ iprop((((((c : Thread nD τ).loc cc0_scratch0) ↦{fullShare} commC m c) ∗ (((c : Thread nD τ).loc cc0_scratch2) ↦{fullShare} xbC m c (tp i)))
          -∗ wp frame (wpE (defs₀ (F := F)) 𝒱₀ (c : Thread nD τ) none) Set.univ k Q)
        -∗ wp frame (wpE (defs₀ (F := F)) 𝒱₀ (c : Thread nD τ) none) Set.univ (do
            if k0_h19 : k0_cond19 i = 1#1 then do
              let v32 : Vec F S1x1024x1024 .f32 ← Prog.lift (.load cW (Rect.unit (s := S4x1024x1024) (k0_off15 i) S1x1024x1024.size (k0_off15_inb i h18 k0_h19)).toLoadRect (View.loadsAt_vmem h_S1x1024x1024))
              let v35 : Vec F S1024x1024 .bf16 ← Prog.lift (.load bW (Rect.unit (s := S1024x1024) ![0, 0] S1024x1024.size inb_S1024x1024_S1024x1024_0_0).toLoadRect (View.loadsAt_vmem h_S1024x1024))
              Prog.lift (.store bW (Rect.unit (s := S1024x1024) ![0, 0] S1024x1024.size inb_S1024x1024_S1024x1024_0_0) (k0_pay1 v32) Finset.univ (View.stores_vmem h_S1024x1024 ((Memref.isWhole_whole cc0_scratch2).storeExact_slice rfl _ packedbf16_S1024x1024_S1024x1024_0_0) (fun _ => rfl)) (.inl rfl))
              pure ⟨⟩
            else do
              pure ⟨⟩
            k) Q) := by
  iintro ⟨Hc, Hb⟩ Hk
  by_cases h : k0_cond19 i = 1#1
  · iapply (wp_pos c h)
    iapply (comm_ld c (tp i) (by rw [k0_off15_eq, tp_val i ((at_prod i).mp h18)])) $$ Hc; iintro Hc
    iapply (xb_ld c) $$ Hb; iintro Hb
    iapply (xb_st c) $$ Hb; iintro Hb
    iapply Hk
    isplitl [Hc]; · iexact Hc
    iexact Hb
  · iapply (wp_neg c h)
    iapply Hk
    isplitl [Hc]; · iexact Hc
    rw [hfb fun h0 => h ((at_row i).mpr h0)]
    iexact Hb

/-- The first slot's tile is stored, the later ones' added. -/
theorem blk_y (h18 : k0_cond18 i = 1#1) {Q : PUnit → sProp 𝕄} (v17 : Vec F S1024x256 .f32) (v20 : Vec F S1024x1024 .bf16) (f : S32x1024x256.Idx → Elt F .f32) :
    (((c : Thread nD τ).loc cc0_scratch1) ↦{fullShare} f : sProp 𝕄)
      ⊢ iprop(((((c : Thread nD τ).loc cc0_scratch1) ↦{fullShare} yStep (i 0).val (tn i) v17 v20 f) -∗ wp frame (wpE (defs₀ (F := F)) 𝒱₀ (c : Thread nD τ) none) Set.univ k Q)
        -∗ wp frame (wpE (defs₀ (F := F)) 𝒱₀ (c : Thread nD τ) none) Set.univ (do
            if k0_h20 : k0_cond20 i = 1#1 then do
              let v32 : Vec F S1x1024x256 .f32 ← Prog.lift (.load yW (Rect.unit (s := S32x1024x256) (k0_off16 i) S1x1024x256.size (k0_off16_inb i h18 k0_h20)).toLoadRect (View.loadsAt_vmem h_S1x1024x256))
              Prog.lift (.store yW (Rect.unit (s := S32x1024x256) (k0_off16 i) S1x1024x256.size (k0_off16_inb i h18 k0_h20)) (k0_pay3 v17 v20) Finset.univ (View.stores_vmem_bits_univ h_S1x1024x256 rfl) (.inl rfl))
              pure ⟨⟩
            else do
              pure ⟨⟩
            if k0_h21 : k0_cond21 i = 1#1 then do
              let v32 : Vec F S1x1024x256 .f32 ← Prog.lift (.load yW (Rect.unit (s := S32x1024x256) (k0_off17 i) S1x1024x256.size (k0_off17_inb i h18 k0_h21)).toLoadRect (View.loadsAt_vmem h_S1x1024x256))
              let v36 : Vec F S1x1024x256 .f32 ← Prog.lift (.load yW (Rect.unit (s := S32x1024x256) (k0_off17 i) S1x1024x256.size (k0_off17_inb i h18 k0_h21)).toLoadRect (View.loadsAt_vmem h_S1x1024x256))
              Prog.lift (.store yW (Rect.unit (s := S32x1024x256) (k0_off17 i) S1x1024x256.size (k0_off17_inb i h18 k0_h21)) (k0_pay4 v17 v20 v32) Finset.univ (View.stores_vmem_bits_univ h_S1x1024x256 rfl) (.inl rfl))
              pure ⟨⟩
            else do
              pure ⟨⟩
            k) Q) := by
  iintro H Hk
  by_cases h : k0_cond20 i = 1#1
  · have h0 : (i 0).val = 0 := (at_zero i).mp h
    have h1 : ¬ k0_cond21 i = 1#1 := fun hc => absurd ((at_pos i).mp hc) (by omega)
    iapply (wp_pos c h)
    iapply (tile_ld c (tn i) (k0_off16_eq i)) $$ H; iintro H
    iapply (tile_st c (tn i) (k0_off16_eq i)) $$ H; iintro H
    iapply (wp_neg c h1)
    iapply Hk
    unfold yStep
    irw [if_pos h0]
    iexact H
  · have h0 : ¬ (i 0).val = 0 := fun h0 => h ((at_zero i).mpr h0)
    have h1 : k0_cond21 i = 1#1 := (at_pos i).mpr (by omega)
    iapply (wp_neg c h)
    iapply (wp_pos c h1)
    iapply (tile_ld c (tn i) (k0_off17_eq i)) $$ H; iintro H
    iapply (tile_ld c (tn i) (k0_off17_eq i)) $$ H; iintro H
    iapply (tile_st c (tn i) (k0_off17_eq i)) $$ H; iintro H
    iapply Hk
    unfold yStep
    irw [if_neg h0]
    iexact H

/-- The running maximum takes in the tile the last slot completes. -/
theorem blk_w (h18 : k0_cond18 i = 1#1) {Q : PUnit → sProp 𝕄} (f : S32x1024x256.Idx → Elt F .f32) (g : S4.Idx → Elt F .f32) :
    iprop((((c : Thread nD τ).loc cc0_scratch1) ↦{fullShare} f) ∗ (((c : Thread nD τ).loc cc0_scratch10) ↦{fullShare} g))
      ⊢ iprop((((((c : Thread nD τ).loc cc0_scratch1) ↦{fullShare} f)
            ∗ (((c : Thread nD τ).loc cc0_scratch10) ↦{fullShare} wStep (i 0).val (tn i) (tile f (tn i)) g)) -∗ wp frame (wpE (defs₀ (F := F)) 𝒱₀ (c : Thread nD τ) none) Set.univ k Q)
        -∗ wp frame (wpE (defs₀ (F := F)) 𝒱₀ (c : Thread nD τ) none) Set.univ (do
            if k0_h22 : k0_cond22 i = 1#1 then do
              let v32 : Vec F S1x1024x256 .f32 ← Prog.lift (.load yW (Rect.unit (s := S32x1024x256) (k0_off18 i) S1x1024x256.size (k0_off18_inb i h18 k0_h22)).toLoadRect (View.loadsAt_vmem h_S1x1024x256))
              let v39 : BitVec 1 := Scalar.cmpi .eq (BitVec.ofNat 32 (i 1).val) 0#32
              let v40 : BitVec 32 := Scalar.extui v39
              let v41 : BitVec 1 := Scalar.cmpi .ne v40 0#32
              if k0_h23 : v41 = 1#1 then do
                let v45 : Elt F .f32 ← smemLoad mW (Rect.unit (s := S4) ![0] S1.size inb_S4_S1_0) numel1_S1 rfl
                Prog.lift (.store mW (Rect.unit (s := S4) ![0] S1.size inb_S4_S1_0) (fun _ => k0_pay5 v32) Finset.univ (View.stores_smem_one rfl numel1_S1) (.inl rfl))
                pure ⟨⟩
              else do
                pure ⟨⟩
              let v42 : BitVec 1 := Scalar.cmpi .sgt (BitVec.ofNat 32 (i 1).val) 0#32
              let v43 : BitVec 32 := Scalar.extui v42
              let v44 : BitVec 1 := Scalar.cmpi .ne v43 0#32
              if k0_h24 : v44 = 1#1 then do
                let v45 : Elt F .f32 ← smemLoad mW (Rect.unit (s := S4) ![0] S1.size inb_S4_S1_0) numel1_S1 rfl
                let v47 : Elt F .f32 ← smemLoad mW (Rect.unit (s := S4) ![0] S1.size inb_S4_S1_0) numel1_S1 rfl
                Prog.lift (.store mW (Rect.unit (s := S4) ![0] S1.size inb_S4_S1_0) (fun _ => k0_pay6 v32 v45) Finset.univ (View.stores_smem_one rfl numel1_S1) (.inl rfl))
                pure ⟨⟩
              else do
                pure ⟨⟩
              pure ⟨⟩
            else do
              pure ⟨⟩
            k) Q) := by
  iintro ⟨H, Hg⟩ Hk
  by_cases h : k0_cond22 i = 1#1
  · have h0 : (i 0).val = 3 := (at_three i).mp h
    iapply (wp_pos c h)
    iapply (tile_ld c (tn i) (k0_off18_eq i)) $$ H; iintro H
    by_cases hn : (i 1).val = 0
    · have h1 : ¬ 0 < (i 1).val := by omega
      iapply (wp_pos c ((word_zero i).mpr hn))
      iapply (word_ld c 0) $$ Hg; iintro Hg
      iapply (word_st c 0) $$ Hg; iintro Hg
      iapply (wp_neg c (fun hc => h1 ((word_pos i).mp hc)))
      iapply Hk
      isplitl [H]; · iexact H
      unfold wStep
      irw [if_pos h0, if_pos hn]
      iexact Hg
    · have h1 : 0 < (i 1).val := by omega
      iapply (wp_neg c (fun hc => hn ((word_zero i).mp hc)))
      iapply (wp_pos c ((word_pos i).mpr h1))
      iapply (word_ld c 0) $$ Hg; iintro Hg
      iapply (word_ld c 0) $$ Hg; iintro Hg
      iapply (word_st c 0) $$ Hg; iintro Hg
      iapply Hk
      isplitl [H]; · iexact H
      unfold wStep
      irw [if_pos h0, if_neg hn]
      iexact Hg
  · have h0 : ¬ (i 0).val = 3 := fun h0 => h ((at_three i).mpr h0)
    iapply (wp_neg c h)
    iapply Hk
    isplitl [H]; · iexact H
    unfold wStep
    irw [if_neg h0]
    iexact Hg

end Blocks

/-! ## The two parts of the body -/

/-- The part of the body that accumulates the product, going on with `k`. -/
def stageB (i : grid0.Coords) (arg3 : Memref sig .tc .vmem S1024x256 .f32) (k : Prog (TpuEff nD τ sig (Elt F) Λ₀ .tc) PUnit) :
    Prog (TpuEff nD τ sig (Elt F) Λ₀ .tc) PUnit := do
  if k0_h18 : k0_cond18 i = 1#1 then do
    if k0_h19 : k0_cond19 i = 1#1 then do
      let v32 : Vec F S1x1024x1024 .f32 ← Prog.lift (.load cW (Rect.unit (s := S4x1024x1024) (k0_off15 i) S1x1024x1024.size (k0_off15_inb i k0_h18 k0_h19)).toLoadRect (View.loadsAt_vmem h_S1x1024x1024))
      let v35 : Vec F S1024x1024 .bf16 ← Prog.lift (.load bW (Rect.unit (s := S1024x1024) ![0, 0] S1024x1024.size inb_S1024x1024_S1024x1024_0_0).toLoadRect (View.loadsAt_vmem h_S1024x1024))
      Prog.lift (.store bW (Rect.unit (s := S1024x1024) ![0, 0] S1024x1024.size inb_S1024x1024_S1024x1024_0_0) (k0_pay1 v32) Finset.univ (View.stores_vmem h_S1024x1024 ((Memref.isWhole_whole cc0_scratch2).storeExact_slice rfl _ packedbf16_S1024x1024_S1024x1024_0_0) (fun _ => rfl)) (.inl rfl))
      pure ⟨⟩
    else do
      pure ⟨⟩
    let v17 : Vec F S1024x256 .f32 ← Prog.lift (.load arg3 (Rect.unit (s := S1024x256) ![0, 0] S1024x256.size inb_S1024x256_S1024x256_0_0).toLoadRect (View.loadsAt_vmem h_S1024x256))
    let v20 : Vec F S1024x1024 .bf16 ← Prog.lift (.load bW (Rect.unit (s := S1024x1024) ![0, 0] S1024x1024.size inb_S1024x1024_S1024x1024_0_0).toLoadRect (View.loadsAt_vmem h_S1024x1024))
    if k0_h20 : k0_cond20 i = 1#1 then do
      let v32 : Vec F S1x1024x256 .f32 ← Prog.lift (.load yW (Rect.unit (s := S32x1024x256) (k0_off16 i) S1x1024x256.size (k0_off16_inb i k0_h18 k0_h20)).toLoadRect (View.loadsAt_vmem h_S1x1024x256))
      Prog.lift (.store yW (Rect.unit (s := S32x1024x256) (k0_off16 i) S1x1024x256.size (k0_off16_inb i k0_h18 k0_h20)) (k0_pay3 v17 v20) Finset.univ (View.stores_vmem_bits_univ h_S1x1024x256 rfl) (.inl rfl))
      pure ⟨⟩
    else do
      pure ⟨⟩
    if k0_h21 : k0_cond21 i = 1#1 then do
      let v32 : Vec F S1x1024x256 .f32 ← Prog.lift (.load yW (Rect.unit (s := S32x1024x256) (k0_off17 i) S1x1024x256.size (k0_off17_inb i k0_h18 k0_h21)).toLoadRect (View.loadsAt_vmem h_S1x1024x256))
      let v36 : Vec F S1x1024x256 .f32 ← Prog.lift (.load yW (Rect.unit (s := S32x1024x256) (k0_off17 i) S1x1024x256.size (k0_off17_inb i k0_h18 k0_h21)).toLoadRect (View.loadsAt_vmem h_S1x1024x256))
      Prog.lift (.store yW (Rect.unit (s := S32x1024x256) (k0_off17 i) S1x1024x256.size (k0_off17_inb i k0_h18 k0_h21)) (k0_pay4 v17 v20 v32) Finset.univ (View.stores_vmem_bits_univ h_S1x1024x256 rfl) (.inl rfl))
      pure ⟨⟩
    else do
      pure ⟨⟩
    if k0_h22 : k0_cond22 i = 1#1 then do
      let v32 : Vec F S1x1024x256 .f32 ← Prog.lift (.load yW (Rect.unit (s := S32x1024x256) (k0_off18 i) S1x1024x256.size (k0_off18_inb i k0_h18 k0_h22)).toLoadRect (View.loadsAt_vmem h_S1x1024x256))
      let v39 : BitVec 1 := Scalar.cmpi .eq (BitVec.ofNat 32 (i 1).val) 0#32
      let v40 : BitVec 32 := Scalar.extui v39
      let v41 : BitVec 1 := Scalar.cmpi .ne v40 0#32
      if k0_h23 : v41 = 1#1 then do
        let v45 : Elt F .f32 ← smemLoad mW (Rect.unit (s := S4) ![0] S1.size inb_S4_S1_0) numel1_S1 rfl
        Prog.lift (.store mW (Rect.unit (s := S4) ![0] S1.size inb_S4_S1_0) (fun _ => k0_pay5 v32) Finset.univ (View.stores_smem_one rfl numel1_S1) (.inl rfl))
        pure ⟨⟩
      else do
        pure ⟨⟩
      let v42 : BitVec 1 := Scalar.cmpi .sgt (BitVec.ofNat 32 (i 1).val) 0#32
      let v43 : BitVec 32 := Scalar.extui v42
      let v44 : BitVec 1 := Scalar.cmpi .ne v43 0#32
      if k0_h24 : v44 = 1#1 then do
        let v45 : Elt F .f32 ← smemLoad mW (Rect.unit (s := S4) ![0] S1.size inb_S4_S1_0) numel1_S1 rfl
        let v47 : Elt F .f32 ← smemLoad mW (Rect.unit (s := S4) ![0] S1.size inb_S4_S1_0) numel1_S1 rfl
        Prog.lift (.store mW (Rect.unit (s := S4) ![0] S1.size inb_S4_S1_0) (fun _ => k0_pay6 v32 v45) Finset.univ (View.stores_smem_one rfl numel1_S1) (.inl rfl))
        pure ⟨⟩
      else do
        pure ⟨⟩
      pure ⟨⟩
    else do
      pure ⟨⟩
    k
  else do
    k

/-- What the accumulation does at a point. -/
theorem stageB_sound (i : grid0.Coords) (h18 : k0_cond18 i = 1#1) (c : Dev nD)
    (arg3 : Memref sig .tc .vmem S1024x256 .f32) (harg3 : arg3.IsWhole) (k : Prog (TpuEff nD τ sig (Elt F) Λ₀ .tc) PUnit) {Q : PUnit → sProp 𝕄}
    (X : Vec F S1024x256 .f32) (fb : S1024x1024.Idx → Elt F .bf16) (hfb : (i 1).val ≠ 0 → fb = xbC m c (tp i))
    (f : S32x1024x256.Idx → Elt F .f32) (g : S4.Idx → Elt F .f32) :
    iprop(owns (Ix := Unit) (Name := ℕ) (U := UU) (Lvl := ℕ) (c : Thread nD τ) arg3 fullShare X
        ∗ (((c : Thread nD τ).loc cc0_scratch0) ↦{fullShare} commC m c) ∗ (((c : Thread nD τ).loc cc0_scratch2) ↦{fullShare} fb)
        ∗ (((c : Thread nD τ).loc cc0_scratch1) ↦{fullShare} f) ∗ (((c : Thread nD τ).loc cc0_scratch10) ↦{fullShare} g))
      ⊢ iprop(((owns (Ix := Unit) (Name := ℕ) (U := UU) (Lvl := ℕ) (c : Thread nD τ) arg3 fullShare X
            ∗ (((c : Thread nD τ).loc cc0_scratch0) ↦{fullShare} commC m c) ∗ (((c : Thread nD τ).loc cc0_scratch2) ↦{fullShare} xbC m c (tp i))
            ∗ (((c : Thread nD τ).loc cc0_scratch1) ↦{fullShare} yStep (i 0).val (tn i) X (xbC m c (tp i)) f)
            ∗ (((c : Thread nD τ).loc cc0_scratch10) ↦{fullShare}
                wStep (i 0).val (tn i) (tile (yStep (i 0).val (tn i) X (xbC m c (tp i)) f) (tn i)) g)) -∗ wp frame (wpE (defs₀ (F := F)) 𝒱₀ (c : Thread nD τ) none) Set.univ k Q)
        -∗ wp frame (wpE (defs₀ (F := F)) 𝒱₀ (c : Thread nD τ) none) Set.univ (stageB i arg3 k) Q) := by
  unfold stageB
  iintro ⟨Hw, Hc, Hb, Hy, Hg⟩ Hk
  iapply (wp_pos c h18)
  iapply (blk_x m i c h18 fb hfb) $$ [Hc Hb]
  · iframe Hc Hb
  iintro ⟨Hc, Hb⟩
  iapply (win_ld c harg3) $$ Hw; iintro Hw
  iapply (xb_ld c) $$ Hb; iintro Hb
  iapply (blk_y i c h18 X (xbC m c (tp i)) f) $$ Hy; iintro Hy
  iapply (blk_w i c h18 (yStep (i 0).val (tn i) X (xbC m c (tp i)) f) g) $$ [Hy Hg]
  · iframe Hy Hg
  iintro ⟨Hy, Hg⟩
  iapply Hk
  iframe Hw Hc Hb Hy Hg

/-- The part of the body that writes a tile of the result, going on with `k`. -/
def stageO (i : grid0.Coords) (arg4 : Memref sig .tc .vmem S1024x256 .f32) (k0_h25 : k0_cond25 i = 1#1) (k : Prog (TpuEff nD τ sig (Elt F) Λ₀ .tc) PUnit) :
    Prog (TpuEff nD τ sig (Elt F) Λ₀ .tc) PUnit := do
  let v17 : Elt F .f32 ← smemLoad mW (Rect.unit (s := S4) ![1] S1.size inb_S4_S1_1) numel1_S1 rfl
  let v18 : Elt F .f32 ← smemLoad mW (Rect.unit (s := S4) ![2] S1.size inb_S4_S1_2) numel1_S1 rfl
  let v20 : Vec F S1x1024x256 .f32 ← Prog.lift (.load yW (Rect.unit (s := S32x1024x256) (k0_off32 i) S1x1024x256.size (k0_off32_inb i k0_h25)).toLoadRect (View.loadsAt_vmem h_S1x1024x256))
  let v33 : Vec F S1024x256 .f32 ← Prog.lift (.load arg4 (Rect.unit (s := S1024x256) ![0, 0] S1024x256.size inb_S1024x256_S1024x256_0_0).toLoadRect (View.loadsAt_vmem h_S1024x256))
  Prog.lift (.store arg4 (Rect.unit (s := S1024x256) ![0, 0] S1024x256.size inb_S1024x256_S1024x256_0_0) (k0_pay10 v17 v18 v20) Finset.univ (View.stores_vmem_bits_univ h_S1024x256 rfl) (.inl rfl))
  k

theorem stageO_sound (i : grid0.Coords) (h25 : k0_cond25 i = 1#1) (c : Dev nD)
    (arg4 : Memref sig .tc .vmem S1024x256 .f32) (harg4 : arg4.IsWhole) (k : Prog (TpuEff nD τ sig (Elt F) Λ₀ .tc) PUnit) {Q : PUnit → sProp 𝕄}
    (X : Vec F S1024x256 .f32) (f : S32x1024x256.Idx → Elt F .f32) (g : S4.Idx → Elt F .f32) :
    iprop(owns (Ix := Unit) (Name := ℕ) (U := UU) (Lvl := ℕ) (c : Thread nD τ) arg4 fullShare X
        ∗ (((c : Thread nD τ).loc cc0_scratch1) ↦{fullShare} f) ∗ (((c : Thread nD τ).loc cc0_scratch10) ↦{fullShare} g))
      ⊢ iprop(((owns (Ix := Unit) (Name := ℕ) (U := UU) (Lvl := ℕ) (c : Thread nD τ) arg4 fullShare
              (k0_pay10 (g (ix1 (n := 4) 1)) (g (ix1 (n := 4) 2)) (tile f (tn i)))
            ∗ (((c : Thread nD τ).loc cc0_scratch1) ↦{fullShare} f) ∗ (((c : Thread nD τ).loc cc0_scratch10) ↦{fullShare} g)) -∗ wp frame (wpE (defs₀ (F := F)) 𝒱₀ (c : Thread nD τ) none) Set.univ k Q)
        -∗ wp frame (wpE (defs₀ (F := F)) 𝒱₀ (c : Thread nD τ) none) Set.univ (stageO i arg4 h25 k) Q) := by
  unfold stageO
  iintro ⟨Hw, Hy, Hg⟩ Hk
  iapply (word_ld c 1) $$ Hg; iintro Hg
  iapply (word_ld c 2) $$ Hg; iintro Hg
  iapply (tile_ld c (tn i) (k0_off32_eq i)) $$ Hy; iintro Hy
  iapply (win_ld c harg4) $$ Hw; iintro Hw
  iapply (win_st c harg4) $$ Hw; iintro Hw
  iapply Hk
  iframe Hw Hy Hg

end Cert.KernelIdealProof

end
-- ==== Proof.KernelIdealBody.lean ====
/-
# The body of the kernel

What a device holds before each grid point, and the body keeping it.
-/
module

public import proofs.«01_k».proof.Proof.KernelIdealMaxima
public import proofs.«01_k».proof.Proof.KernelIdealTiles

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The grid -/

theorem coord0 : ∀ t : Fin grid0.N, (grid0.coords t 0).val = t.val / 32 := by decide +kernel
theorem coord1 : ∀ t : Fin grid0.N, (grid0.coords t 1).val = t.val % 32 := by decide +kernel
theorem flush1 : ∀ t : Fin cfg0.N, (cfg0.win 1).flush t = decide (128 ≤ t.val) := by decide +kernel
theorem N_val (t : Fin cfg0.N) : t.val < 160 := lt_of_lt_of_eq t.isLt N_0

/-! ## What the buffers hold before a point -/

/-- How many of the slots the tile `n` has taken in before point `t`. -/
def cnt (t n : ℕ) : ℕ := (t + 31 - n) / 32

/-- The factor, the product and the words before point `t`, at most 128. -/
def okMid (c : Dev nD) (t : ℕ) (fb : S1024x1024.Idx → Elt F .bf16) (f : S32x1024x256.Idx → Elt F .f32) (g : S4.Idx → Elt F .f32) : Prop :=
  (t % 32 ≠ 0 → fb = xbC m c (Fin.ofNat 4 (t / 32)))
    ∧ (∀ n : Fin 32, 1 ≤ cnt t n.val → tile f n = accC m c n.val (cnt t n.val))
    ∧ (97 ≤ t → g (ix1 (n := 4) 0) = locM m c (t - 97))

/-- The product and the words after the exchange of the maxima. -/
def okEnd (c : Dev nD) (f : S32x1024x256.Idx → Elt F .f32) (g : S4.Idx → Elt F .f32) : Prop :=
  (∀ n : Fin 32, tile f n = accC m c n.val 4) ∧ g (ix1 (n := 4) 1) = k0_pay8 (amaxC m) ∧ g (ix1 (n := 4) 2) = k0_pay9 (amaxC m)

theorem okMid_zero (c : Dev nD) (fb : S1024x1024.Idx → Elt F .bf16) (f : S32x1024x256.Idx → Elt F .f32) (g : S4.Idx → Elt F .f32) :
    okMid m c 0 fb f g := by
  refine ⟨fun h => absurd rfl h, fun n h => ?_, fun h => absurd h (by omega)⟩
  have hn := n.isLt
  exact absurd h (by unfold cnt; omega)

/-- A point keeps it. -/
theorem okMid_step (c : Dev nD) (t : Fin cfg0.N) (ht : t.val < 128) (fb : S1024x1024.Idx → Elt F .bf16)
    (f : S32x1024x256.Idx → Elt F .f32) (g : S4.Idx → Elt F .f32) (h : okMid m c t.val fb f g) (i : grid0.Coords) (hi : i = grid0.coords t) :
    okMid m c (t.val + 1) (xbC m c (tp i)) (yStep (i 0).val (tn i) (wB m c t.val) (xbC m c (tp i)) f)
      (wStep (i 0).val (tn i) (tile (yStep (i 0).val (tn i) (wB m c t.val) (xbC m c (tp i)) f) (tn i)) g) := by
  have h0 : (i 0).val = t.val / 32 := by rw [hi]; exact coord0 t
  have h1 : (i 1).val = t.val % 32 := by rw [hi]; exact coord1 t
  have htp : tp i = Fin.ofNat 4 (t.val / 32) := congrArg (Fin.ofNat 4) h0
  obtain ⟨-, hf, hg⟩ := h
  -- the tile of this point
  have hnew : tile (yStep (i 0).val (tn i) (wB m c t.val) (xbC m c (tp i)) f) (tn i) = accC m c (t.val % 32) (t.val / 32 + 1) := by
    unfold yStep
    by_cases hp : (i 0).val = 0
    · rw [if_pos hp, tile_set, htp, ← h0, hp]
      show k0_pay3 _ _ = k0_pay3 _ _
      rw [show t.val % 32 = t.val by omega]; rfl
    · rw [if_neg hp, tile_set, htp, hf (tn i) (by show 1 ≤ cnt t.val (i 1).val; unfold cnt; omega)]
      show k0_pay4 _ _ (accC m c (i 1).val (cnt t.val (i 1).val)) = _
      obtain ⟨k, hk⟩ : ∃ k, t.val / 32 = k + 1 := ⟨t.val / 32 - 1, by omega⟩
      rw [show cnt t.val (i 1).val = k + 1 by unfold cnt; omega, h1, hk]
      show _ = k0_pay4 (wB m c (32 * (k + 1) + t.val % 32)) _ _
      rw [show 32 * (k + 1) + t.val % 32 = t.val by omega]
  refine ⟨fun hn => ?_, fun n hc => ?_, fun h97 => ?_⟩
  · rw [htp, show (t.val + 1) / 32 = t.val / 32 by omega]
  · have hn32 := n.isLt
    by_cases hn : n = tn i
    · subst hn
      rw [hnew]
      show accC m c _ _ = accC m c (i 1).val (cnt (t.val + 1) (i 1).val)
      rw [show cnt (t.val + 1) (i 1).val = t.val / 32 + 1 by unfold cnt; omega, h1]
    · have hne : n.val ≠ t.val % 32 := fun he => hn (Fin.ext (he.trans h1.symm))
      have hcc : cnt (t.val + 1) n.val = cnt t.val n.val := by unfold cnt; omega
      rw [hcc] at hc ⊢
      rw [← hf n hc]
      unfold yStep
      split
      · exact tile_set_ne _ _ hn
      · exact tile_set_ne _ _ hn
  · rw [hnew]
    unfold wStep
    rw [if_pos (show (i 0).val = 3 by omega), Function.update_self]
    show (if (i 1).val = 0 then _ else _) = _
    rw [h1, show t.val / 32 + 1 = 4 by omega]
    split
    · rename_i hz
      rw [hz, show t.val + 1 - 97 = 0 by omega]; rfl
    · rename_i hz
      obtain ⟨k, hk⟩ : ∃ k, t.val % 32 = k + 1 := ⟨t.val % 32 - 1, by omega⟩
      rw [hg (by omega), hk, show t.val + 1 - 97 = k + 1 by omega, show t.val - 97 = k by omega]; rfl

theorem okMid_end (c : Dev nD) (fb : S1024x1024.Idx → Elt F .bf16) (f : S32x1024x256.Idx → Elt F .f32) (g : S4.Idx → Elt F .f32)
    (h : okMid m c 128 fb f g) :
    okEnd m c f (Function.update (Function.update g (ix1 (n := 4) 1) (k0_pay8 (amaxC m))) (ix1 (n := 4) 2) (k0_pay9 (amaxC m))) := by
  refine ⟨fun n => ?_, ?_, Function.update_self ..⟩
  · have hn := n.isLt
    have hc : cnt 128 n.val = 4 := by unfold cnt; omega
    rw [h.2.1 n (by omega), hc]
  · rw [Function.update_of_ne (by decide), Function.update_self]

/-! ## The state before a point -/

/-- Before the first point: nothing of either exchange has run. -/
def stStart (c : Dev nD) : sProp 𝕄 :=
  iprop((∃ K, recs m K) ∗ levAts L lv ∗ exA c ∗ exX c
    ∗ (((c : Thread nD τ).loc main_arg0) ↦{fullShare} xin m c)
    ∗ (∃ f : S4x1024x1024.Idx → Elt F .f32, ((c : Thread nD τ).loc cc0_scratch0) ↦{fullShare} f)
    ∗ (∃ f : S32x1024x256.Idx → Elt F .f32, ((c : Thread nD τ).loc cc0_scratch1) ↦{fullShare} f)
    ∗ (∃ f : S1024x1024.Idx → Elt F .bf16, ((c : Thread nD τ).loc cc0_scratch2) ↦{fullShare} f)
    ∗ (∃ f : S8x128.Idx → Elt F .f32, ((c : Thread nD τ).loc cc0_scratch6) ↦{fullShare} f)
    ∗ (∃ f : S4x8x128.Idx → Elt F .f32, ((c : Thread nD τ).loc cc0_scratch7) ↦{fullShare} f)
    ∗ (∃ f : S4.Idx → Elt F .f32, ((c : Thread nD τ).loc cc0_scratch10) ↦{fullShare} f))

/-- After the exchange of the blocks, before that of the maxima. -/
def midR (K : Dev nD × CK → ℕ) (c : Dev nD) (fb : S1024x1024.Idx → Elt F .bf16) (f : S32x1024x256.Idx → Elt F .f32) (g : S4.Idx → Elt F .f32) : sProp 𝕄 :=
  iprop(recs m K ∗ levAts L lv ∗ exX c ∗ exA' c
    ∗ (((c : Thread nD τ).loc main_arg0) ↦{fullShare} xin m c)
    ∗ (((c : Thread nD τ).loc cc0_scratch0) ↦{fullShare} commC m c)
    ∗ (((c : Thread nD τ).loc cc0_scratch2) ↦{fullShare} fb)
    ∗ (((c : Thread nD τ).loc cc0_scratch1) ↦{fullShare} f)
    ∗ (((c : Thread nD τ).loc cc0_scratch10) ↦{fullShare} g)
    ∗ (∃ f : S8x128.Idx → Elt F .f32, ((c : Thread nD τ).loc cc0_scratch6) ↦{fullShare} f)
    ∗ (∃ f, rPts c c f)
    ∗ (bigSep Finset.univ fun j : Fin 4 => peer c j (iprop(∃ f, rPts j c f))))
def stMid (c : Dev nD) (t : ℕ) : sProp 𝕄 :=
  iprop(∃ K fb f g, ⌜okMid m c t fb f g⌝ ∗ midR m K c fb f g)

/-- After both exchanges. -/
def endR (c : Dev nD) (f : S32x1024x256.Idx → Elt F .f32) (g : S4.Idx → Elt F .f32) : sProp 𝕄 :=
  iprop(exX' c ∗ exA' c
    ∗ (((c : Thread nD τ).loc main_arg0) ↦{fullShare} xin m c)
    ∗ (((c : Thread nD τ).loc cc0_scratch0) ↦{fullShare} commC m c)
    ∗ (∃ fb : S1024x1024.Idx → Elt F .bf16, ((c : Thread nD τ).loc cc0_scratch2) ↦{fullShare} fb)
    ∗ (((c : Thread nD τ).loc cc0_scratch1) ↦{fullShare} f)
    ∗ (((c : Thread nD τ).loc cc0_scratch10) ↦{fullShare} g)
    ∗ (((c : Thread nD τ).loc cc0_scratch6) ↦{fullShare} aBuf m c)
    ∗ (((c : Thread nD τ).loc cc0_scratch7) ↦{fullShare} amaxC m))
def stEnd (c : Dev nD) : sProp 𝕄 := iprop(∃ f g, ⌜okEnd m c f g⌝ ∗ endR m c f g)

def stAt (c : Dev nD) (t : ℕ) : sProp 𝕄 := if t = 0 then stStart m c else if t ≤ 128 then stMid m c t else stEnd m c
def owedAt (c : Dev nD) (t : ℕ) : CellTallies nD τ sig Unit := if t = 0 then O₀ c else if t ≤ 128 then owA c 4 else owA c 0

/-! ## The body, point by point -/

section Points
variable (c : Dev nD) (arg3 : Memref sig .tc .vmem S1024x256 .f32) (harg3 : arg3.IsWhole)
  (arg4 : Memref sig .tc .vmem S1024x256 .f32) (harg4 : arg4.IsWhole) (k : Prog (TpuEff nD τ sig (Elt F) Λ₀ .tc) PUnit)

theorem stageA_skip (i : grid0.Coords) (h : ¬ k0_cond1 i = 1#1) : stageA i c arg3 harg3 arg4 harg4 k = k := dif_neg h
theorem stageB_skip (i : grid0.Coords) (h : ¬ k0_cond18 i = 1#1) : stageB i arg3 k = k := dif_neg h
theorem stageX_skip (i : grid0.Coords) (h25 : k0_cond25 i = 1#1) (h : ¬ k0_cond26 i = 1#1) : stageX i c arg3 harg3 arg4 harg4 h25 k = k := dif_neg h

include harg3 in
/-- A point of the accumulation. -/
theorem prod_step (K : Dev nD × CK → ℕ) (t : Fin cfg0.N) (ht : t.val < 128) {Q : PUnit → sProp 𝕄}
    (fb : S1024x1024.Idx → Elt F .bf16) (f : S32x1024x256.Idx → Elt F .f32) (g : S4.Idx → Elt F .f32) (ok : okMid m c t.val fb f g) :
    iprop(owns (Ix := Unit) (Name := ℕ) (U := UU) (Lvl := ℕ) (c : Thread nD τ) arg3 fullShare (wB m c t.val) ∗ midR m K c fb f g)
      ⊢ iprop(((owns (Ix := Unit) (Name := ℕ) (U := UU) (Lvl := ℕ) (c : Thread nD τ) arg3 fullShare (wB m c t.val) ∗ stMid m c (t.val + 1))
          -∗ wp frame (wpE (defs₀ (F := F)) 𝒱₀ (c : Thread nD τ) none) Set.univ k Q)
        -∗ wp frame (wpE (defs₀ (F := F)) 𝒱₀ (c : Thread nD τ) none) Set.univ (stageB (grid0.coords t) arg3 k) Q) := by
  have h0 := coord0 t
  have h1 := coord1 t
  unfold midR stMid
  iintro ⟨Hw, HK, Hl, HX, HA, Hx, Hc, Hb, Hy, Hg, Hs, Hr, Hp⟩ Hk
  iapply (stageB_sound m (grid0.coords t) ((at_prod _).mpr (by omega)) c arg3 harg3 k (wB m c t.val) fb
    (fun hn => (ok.1 (by rwa [← h1])).trans (congrArg (fun q => xbC m c (Fin.ofNat 4 q)) h0.symm)) f g) $$ [Hw Hc Hb Hy Hg]
  · iframe Hw Hc Hb Hy Hg
  iintro ⟨Hw, Hc, Hb, Hy, Hg⟩
  iapply Hk
  isplitl [Hw]; · iexact Hw
  iexists K, _, _, _
  isplitr; · ipureintro; exact okMid_step m c t ht fb f g ok _ rfl
  unfold midR
  iframe HK Hl HX HA Hx Hc Hb Hy Hg Hs Hr Hp

include harg4 in
/-- A point of the output, both exchanges done. -/
theorem out_step (t : Fin cfg0.N) (h25 : k0_cond25 (grid0.coords t) = 1#1) {Q : PUnit → sProp 𝕄} (X : Vec F S1024x256 .f32)
    (f : S32x1024x256.Idx → Elt F .f32) (g : S4.Idx → Elt F .f32) (ok : okEnd m c f g) :
    iprop(owns (Ix := Unit) (Name := ℕ) (U := UU) (Lvl := ℕ) (c : Thread nD τ) arg4 fullShare X ∗ endR m c f g)
      ⊢ iprop(((owns (Ix := Unit) (Name := ℕ) (U := UU) (Lvl := ℕ) (c : Thread nD τ) arg4 fullShare (outC m c (t.val % 32)) ∗ stEnd m c)
          -∗ wp frame (wpE (defs₀ (F := F)) 𝒱₀ (c : Thread nD τ) none) Set.univ k Q)
        -∗ wp frame (wpE (defs₀ (F := F)) 𝒱₀ (c : Thread nD τ) none) Set.univ (stageO (grid0.coords t) arg4 h25 k) Q) := by
  have h1 := coord1 t
  have hv : k0_pay10 (g (ix1 (n := 4) 1)) (g (ix1 (n := 4) 2)) (tile f (tn (grid0.coords t))) = outC m c (t.val % 32) := by
    rw [ok.1, ok.2.1, ok.2.2]
    show _ = k0_pay10 _ _ (accC m c (t.val % 32) 4)
    rw [← h1]
  unfold endR stEnd
  iintro ⟨Hw, HX, HA, Hx, Hc, Hb, Hy, Hg, Hs, Hr⟩ Hk
  iapply (stageO_sound (grid0.coords t) h25 c arg4 harg4 k X f g) $$ [Hw Hy Hg]
  · iframe Hw Hy Hg
  irw [hv]
  iintro ⟨Hw, Hy, Hg⟩
  iapply Hk
  isplitl [Hw]; · iexact Hw
  iexists f, g
  isplitr; · ipureintro; exact ok
  unfold endR
  iframe HX HA Hx Hc Hb Hy Hg Hs Hr

end Points

/-- The body as its parts. -/
theorem body_parts (i : grid0.Coords) (arg3 : Memref sig .tc .vmem S1024x256 .f32) (harg3 : arg3.IsWhole)
    (arg4 : Memref sig .tc .vmem S1024x256 .f32) (harg4 : arg4.IsWhole) :
    cc0_body (F := F) i (Memref.whole main_arg0) (Memref.isWhole_whole _) arg3 harg3 arg4 harg4 (Memref.whole cc0_scratch0) (Memref.isWhole_whole _)
      (Memref.whole cc0_scratch1) (Memref.isWhole_whole _) (Memref.whole cc0_scratch2) (Memref.isWhole_whole _) cc0_scratch3 cc0_scratch4 cc0_scratch5
      (Memref.whole cc0_scratch6) (Memref.isWhole_whole _) (Memref.whole cc0_scratch7) (Memref.isWhole_whole _) cc0_scratch8 cc0_scratch9
      (Memref.whole cc0_scratch10) (Memref.isWhole_whole _)
    = (do
        let d ← Prog.lift .deviceId
        stageA i d arg3 harg3 arg4 harg4 (stageB i arg3
          (if h25 : k0_cond25 i = 1#1 then stageX i d arg3 harg3 arg4 harg4 h25 (stageO i arg4 h25 (pure ⟨⟩)) else pure ⟨⟩))) := by
  rw [cc0_body_eq_skeleton]; rfl

/-! ## The proof data and the body obligation -/

/-- What the pipeline holds between points: the arrays as the launch finds them, each point's block of `w` in place, a
    result tile written. -/
def dats (_ : Fin 1) (c : Dev nD) : Dat τ (Elt F) Unit ℕ UU ℕ cfg0 c where
  A w := V m c (Pipeline.arrRef spec0 w)
  after w t := match w with
    | (0 : Fin 2) => iblk m c 0 t
    | (1 : Fin 2) => outC m c (t.val % 32)
  Φ t := stAt m c t.val
  q _ := fullShare
  owed t := owedAt c t.val

theorem phi_at (c : Dev nD) (t : Fin (cfg0.N + 1)) : (dats m 0 c).Φ t = stAt m c t.val := rfl

/-- The staged block of `w` at a point is its block. -/
theorem before_w (c : Dev nD) (t : Fin cfg0.N) (d) : (dats m 0 c).before 0 t d = wB m c t.val := by
  refine ((dats m 0 c).before_in_eq_fetched 0 rfl (fun _ => rfl) (fun _ _ _ => rfl) (fun t => rfl) t d).trans ?_
  unfold wB
  rw [dif_pos (N_val t)]
  rfl

theorem wB_after (c : Dev nD) (t : Fin cfg0.N) : wB m c t.val = (dats m 0 c).after 0 t := by
  unfold wB
  rw [dif_pos (N_val t)]
  rfl

/-- What the obligation gives the body of the debts, and what it takes back. -/
theorem owesAt_ow (c : Dev nD) (t : Fin (cfg0.N + 1)) : (dats m 0 c).owesAt () t ⊢ (ow c (owedAt c t.val) : sProp 𝕄) := by
  unfold Dat.owesAt Pipeline.owesWithin ow
  iintro ⟨%W, -, HO⟩
  iexists W
  iexact HO
theorem ow_owesAt (c : Dev nD) (t : Fin (cfg0.N + 1)) (n : ℕ) (h : n = t.val) : (ow c (owedAt c n) : sProp 𝕄) ⊢ (dats m 0 c).owesAt () t := by
  subst h
  unfold Dat.owesAt Pipeline.owesWithin ow
  iintro ⟨%W, HO⟩
  iexists W
  isplitr; · ipureintro; exact fun _ _ => Or.inl trivial
  iexact HO

section Obligation
variable (c : Dev nD) (t : Fin cfg0.N) (arg3 : Memref sig .tc .vmem S1024x256 .f32) (harg3 : arg3.IsWhole)
  (arg4 : Memref sig .tc .vmem S1024x256 .f32) (harg4 : arg4.IsWhole)

/-- The body at a point, its four parts in a row. -/
abbrev bodyP (i : grid0.Coords) : Prog (TpuEff nD τ sig (Elt F) Λ₀ .tc) PUnit :=
  stageA i c arg3 harg3 arg4 harg4 (stageB i arg3
    (if h25 : k0_cond25 i = 1#1 then stageX i c arg3 harg3 arg4 harg4 h25 (stageO i arg4 h25 (pure ⟨⟩)) else pure ⟨⟩))

/-- A point of the first four values of the outer coordinate. -/
theorem body_prod (ht : t.val < 128) {Q : PUnit → sProp 𝕄} :
    iprop(stAt m c t.val ∗ ow c (owedAt c t.val) ∗ owns (Ix := Unit) (Name := ℕ) (U := UU) (Lvl := ℕ) (c : Thread nD τ) arg3 fullShare (wB m c t.val))
      ⊢ iprop(((stAt m c (t.val + 1) ∗ ow c (owedAt c (t.val + 1))
            ∗ owns (Ix := Unit) (Name := ℕ) (U := UU) (Lvl := ℕ) (c : Thread nD τ) arg3 fullShare (wB m c t.val)) -∗ Q ⟨⟩)
        -∗ wp frame (wpE (defs₀ (F := F)) 𝒱₀ (c : Thread nD τ) none) Set.univ (bodyP c arg3 harg3 arg4 harg4 (grid0.coords t)) Q) := by
  have h0 := coord0 t
  have h1 := coord1 t
  have h25 : ¬ k0_cond25 (grid0.coords t) = 1#1 := fun h => absurd ((at_out _).mp h) (by omega)
  unfold bodyP
  rw [dif_neg h25]
  rw [show stAt m c (t.val + 1) = stMid m c (t.val + 1) by unfold stAt; rw [if_neg (by omega), if_pos (by omega)],
    show owedAt c (t.val + 1) = owA c 4 by unfold owedAt; rw [if_neg (by omega), if_pos (by omega)]]
  by_cases hz : t.val = 0
  · rw [show stAt m c t.val = stStart m c by unfold stAt; rw [if_pos hz], show owedAt c t.val = O₀ c by unfold owedAt; rw [if_pos hz]]
    unfold stStart
    iintro ⟨⟨⟨%K, #HK⟩, #Hl, HA, HX, Hx, Hc, ⟨%fy, Hy⟩, ⟨%fb, Hb⟩, Hs, Hr, ⟨%fg, Hg⟩⟩, HO, Hw⟩ Hk
    iapply (stageA_sound m K (grid0.coords t) ((at_first _).mpr ⟨by omega, by omega⟩) c arg3 harg3 arg4 harg4) $$ [HA Hx Hc Hr HO]
    · iframe HK Hl HO HA Hx Hc Hr
    iintro ⟨HO, HA, Hx, Hc, Hr, Hp⟩
    iapply (prod_step m c arg3 harg3 _ K t ht fb fy fg (by rw [hz]; exact okMid_zero m c fb fy fg)) $$ [HA HX Hx Hc Hy Hb Hs Hr Hp Hg Hw]
    · unfold midR
      iframe Hw HK Hl HX HA Hx Hc Hb Hy Hg Hs Hr Hp
    iintro ⟨Hw, Hm⟩
    irw [Prog.pure_eq_ret, wp_ret]; imodintro
    iapply Hk
    iframe Hm HO Hw
  · rw [show stAt m c t.val = stMid m c t.val by unfold stAt; rw [if_neg hz, if_pos (by omega)],
      show owedAt c t.val = owA c 4 by unfold owedAt; rw [if_neg hz, if_pos (by omega)],
      stageA_skip c arg3 harg3 arg4 harg4 _ _ (fun h => by have := (at_first _).mp h; omega)]
    rw [show stMid m c t.val = iprop(∃ K fb f g, ⌜okMid m c t.val fb f g⌝ ∗ midR m K c fb f g) from rfl]
    iintro ⟨⟨%K, %fb, %fy, %fg, %ok, HM⟩, HO, Hw⟩ Hk
    iapply (prod_step m c arg3 harg3 _ K t ht fb fy fg ok) $$ [HM Hw]
    · iframe Hw HM
    iintro ⟨Hw, Hm⟩
    irw [Prog.pure_eq_ret, wp_ret]; imodintro
    iapply Hk
    iframe Hm HO Hw

/-- A point of the fifth. -/
theorem body_out (ht : 128 ≤ t.val) (X : Vec F S1024x256 .f32) {Q : PUnit → sProp 𝕄} :
    iprop(stAt m c t.val ∗ ow c (owedAt c t.val) ∗ owns (Ix := Unit) (Name := ℕ) (U := UU) (Lvl := ℕ) (c : Thread nD τ) arg4 fullShare X)
      ⊢ iprop(((stAt m c (t.val + 1) ∗ ow c (owedAt c (t.val + 1))
            ∗ owns (Ix := Unit) (Name := ℕ) (U := UU) (Lvl := ℕ) (c : Thread nD τ) arg4 fullShare (outC m c (t.val % 32))) -∗ Q ⟨⟩)
        -∗ wp frame (wpE (defs₀ (F := F)) 𝒱₀ (c : Thread nD τ) none) Set.univ (bodyP c arg3 harg3 arg4 harg4 (grid0.coords t)) Q) := by
  have h0 := coord0 t
  have h1 := coord1 t
  have hN := N_val t
  have h25 : k0_cond25 (grid0.coords t) = 1#1 := (at_out _).mpr (by omega)
  unfold bodyP
  rw [dif_pos h25, stageA_skip c arg3 harg3 arg4 harg4 _ _ (fun h => by have := (at_first _).mp h; omega),
    stageB_skip arg3 _ _ (fun h => by have := (at_prod _).mp h; omega),
    show stAt m c (t.val + 1) = stEnd m c by unfold stAt; rw [if_neg (by omega), if_neg (by omega)],
    show owedAt c (t.val + 1) = owA c 0 by unfold owedAt; rw [if_neg (by omega), if_neg (by omega)]]
  by_cases hz : t.val = 128
  · rw [show stAt m c t.val = stMid m c 128 by unfold stAt; rw [if_neg (by omega), if_pos (by omega), hz],
      show owedAt c t.val = owA c 4 by unfold owedAt; rw [if_neg (by omega), if_pos (by omega)]]
    unfold stMid midR
    iintro ⟨⟨%K, %fb, %fy, %fg, %ok, HK, Hl, HX, HA, Hx, Hc, Hb, Hy, Hg, Hs, Hr, Hp⟩, HO, Hw⟩ Hk
    iapply (stageX_sound m K (grid0.coords t) h25 ((at_row' _).mpr (by omega)) c arg3 harg3 arg4 harg4 _ fg (ok.2.2 (by omega))) $$ [HK Hl HO HX Hg Hs Hr Hp]
    · iframe HK Hl HO HX Hg Hs Hr Hp
    iintro ⟨HO, HX, Hg, Hs, Hr⟩
    iapply (out_step m c arg4 harg4 _ t h25 X fy _ (okMid_end m c fb fy fg ok)) $$ [HX HA Hx Hc Hb Hy Hg Hs Hr Hw]
    · unfold endR
      isplitl [Hw]; · iexact Hw
      isplitl [HX]; · iexact HX
      isplitl [HA]; · iexact HA
      isplitl [Hx]; · iexact Hx
      isplitl [Hc]; · iexact Hc
      isplitl [Hb]; · iexists fb; iexact Hb
      iframe Hy Hg Hs Hr
    iintro ⟨Hw, Hm⟩
    irw [Prog.pure_eq_ret, wp_ret]; imodintro
    iapply Hk
    iframe Hm HO Hw
  · rw [show stAt m c t.val = stEnd m c by unfold stAt; rw [if_neg (by omega), if_neg (by omega)],
      show owedAt c t.val = owA c 0 by unfold owedAt; rw [if_neg (by omega), if_neg (by omega)],
      stageX_skip c arg3 harg3 arg4 harg4 _ _ h25 (fun h => by have := (at_row' _).mp h; omega)]
    rw [show stEnd m c = iprop(∃ f g, ⌜okEnd m c f g⌝ ∗ endR m c f g) from rfl]
    iintro ⟨⟨%fy, %fg, %ok, HM⟩, HO, Hw⟩ Hk
    iapply (out_step m c arg4 harg4 _ t h25 X fy fg ok) $$ [HM Hw]
    · iframe Hw HM
    iintro ⟨Hw, Hm⟩
    irw [Prog.pure_eq_ret, wp_ret]; imodintro
    iapply Hk
    isplitl [Hm]
    · unfold stEnd; iexact Hm
    iframe HO Hw

end Obligation

/-- What the second window's buffer is left at: at the first points what it held, at the last ones the result tile. -/
theorem leaves_early (c : Dev nD) (t : Fin cfg0.N) (ht : t.val < 128) :
    (dats m 0 c).leavesExact 1 t = iprop(∃ d, owns c ((cfg0.win 1).stage (cfg0.slots t 1)) fullShare ((dats m 0 c).before 1 t d)) := by
  refine (dats m 0 c).leavesExact_idle 1 t ?_ ?_
  · have h : ¬ k0_cond25 (grid0.coords t) = 1#1 := fun h => by
      have h1 := (at_out _).mp h
      have h2 := coord0 t
      omega
    show (!(k0_cond25 (grid0.coords t) == 1#1)) = true
    rw [beq_false_of_ne h]; rfl
  · rw [flush1]; exact decide_eq_false (by omega)
theorem leaves_late (c : Dev nD) (t : Fin cfg0.N) (ht : 128 ≤ t.val) :
    (dats m 0 c).leavesExact 1 t = owns c ((cfg0.win 1).stage (cfg0.slots t 1)) fullShare (outC m c (t.val % 32)) := by
  have hi : cfg0.idle 1 (cfg0.grid.coords t) = false := by
    have h : k0_cond25 (grid0.coords t) = 1#1 := (at_out _).mpr (by have := coord0 t; have := N_val t; omega)
    show (!(k0_cond25 (grid0.coords t) == 1#1)) = false
    rw [h]; rfl
  unfold Dat.leavesExact
  rw [hi]
  rfl

/-- A program that asks for its device goes on with it. -/
theorem wp_device (c : Dev nD) (k : Dev nD → Prog (TpuEff nD τ sig (Elt F) Λ₀ .tc) PUnit) {Q : PUnit → sProp 𝕄} :
    (wp frame (wpE (defs₀ (F := F)) 𝒱₀ (c : Thread nD τ) none) Set.univ (k c) Q : sProp 𝕄)
      ⊢ wp frame (wpE (defs₀ (F := F)) 𝒱₀ (c : Thread nD τ) none) Set.univ (Prog.lift .deviceId >>= k) Q :=
  Entails.of_eq (wp_deviceId (defs := defs₀ (F := F)) (c := (c : Thread nD τ)) 𝒱₀ none Set.univ).symm

/-- The library's body obligation on device `c`. -/
theorem body_obligation (c : Dev nD) : BodyObligation (dats (F := F) m 0 c) (defs₀ (F := F)) 𝒱₀ () Set.univ := fun t => by
  rw [bigSep_W0, bigSep_W0]
  have hb : defs₀ (F := F) .tc cfg0.body (cfg0.bodyArgs t (cfg0.slots t)) = bodyAt0 t := rfl
  rw [hb]
  unfold bodyAt0
  rw [body_parts]
  simp only [before_w]
  iintro ⟨HΦ, Ho, ⟨%d0, Hw⟩, ⟨%d1, Hout⟩⟩
  ihave HO := (owesAt_ow m c t.castSucc) $$ Ho
  ihave HΦ := (Entails.of_eq (phi_at m c t.castSucc)) $$ HΦ
  iapply (wp_device c)
  by_cases ht : t.val < 128
  · iapply (body_prod m c t _ _ _ _ ht) $$ [HΦ HO Hw]
    · isplitl [HΦ]; · iexact HΦ
      isplitl [HO]; · iexact HO
      iexact Hw
    iintro ⟨HΦ, HO, Hw⟩
    isplitl [HΦ]; · iapply (Entails.of_eq (phi_at m c t.succ).symm); iexact HΦ
    isplitl [HO]; · iapply (ow_owesAt m c t.succ _ rfl); iexact HO
    isplitl [Hw]; · irw [← wB_after]; iexact Hw
    ihave H := (Entails.of_eq (leaves_early m c t ht).symm) $$ [Hout]
    · iexists d1; iexact Hout
    iexact H
  · iapply (body_out m c t _ _ _ _ (by omega) ((dats m 0 c).before 1 t d1)) $$ [HΦ HO Hout]
    · isplitl [HΦ]; · iexact HΦ
      isplitl [HO]; · iexact HO
      iexact Hout
    iintro ⟨HΦ, HO, Hout⟩
    isplitl [HΦ]; · iapply (Entails.of_eq (phi_at m c t.succ).symm); iexact HΦ
    isplitl [HO]; · iapply (ow_owesAt m c t.succ _ rfl); iexact HO
    isplitl [Hw]; · irw [← wB_after]; iexact Hw
    ihave H := (Entails.of_eq (leaves_late m c t (by omega)).symm) $$ Hout
    iexact H

end Cert.KernelIdealProof

end
-- ==== Proof.KernelIdealRun.lean ====
/-
# The run of the kernel

The launch deals every device its part of the protocol; the pipeline runs the body at every grid point; at the end the
arguments are unchanged, every semaphore is at zero and each device's result holds the tiles the body wrote.
-/
module

public import proofs.«01_k».proof.Proof.KernelIdealBody
public import Mathlib.Tactic.Abel
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The semaphores of a device -/

/-- The kernel's own semaphores: the local copy's and the four families. -/
def osem : Fin 1 ⊕ Fin 4 × Fin 4 → SemLoc sig
  | .inl _ => csem (.inl 1)
  | .inr p => csem (.inr p)

theorem ownSemFacts : Pipeline.OwnSemFacts cfg0.spec osem := by decide

omit [FloatOps F] in
/-- Over the kinds of semaphore: the barrier, the copy, the four families. -/
theorem bigSep_kinds (Φ : CK → sProp 𝕄) : bigSep Finset.univ Φ
    = iprop(Φ (.inl 0) ∗ Φ (.inl 1) ∗ (bigSep Finset.univ fun j => Φ (.inr (0, j))) ∗ (bigSep Finset.univ fun j => Φ (.inr (1, j)))
        ∗ (bigSep Finset.univ fun j => Φ (.inr (2, j))) ∗ (bigSep Finset.univ fun j => Φ (.inr (3, j)))) := by
  rw [bigSep_univ_sum, bigSep_univ_prod, bigSep_fin4,
    bigSep_univ_eq_bigSepL [0, 1] (by decide) (by decide) (fun a : Fin 2 => Φ (.inl a))]
  show iprop((Φ (.inl 0) ∗ Φ (.inl 1)) ∗ (bigSep Finset.univ fun j => Φ (.inr (0, j))) ∗ (bigSep Finset.univ fun j => Φ (.inr (1, j)))
      ∗ (bigSep Finset.univ fun j => Φ (.inr (2, j))) ∗ (bigSep Finset.univ fun j => Φ (.inr (3, j)))) = _
  refine Entails.antisymm (show _ ⊢ (_ : sProp 𝕄) from ?_) (show _ ⊢ (_ : sProp 𝕄) from ?_)
  · iintro ⟨⟨H0, H1⟩, H2, H3, H4, H5⟩
    iframe H0 H1 H2 H3 H4 H5
  · iintro ⟨H0, H1, H2, H3, H4, H5⟩
    isplitl [H0 H1]
    · isplitl [H0]; · iexact H0
      iexact H1
    iframe H2 H3 H4 H5

omit [FloatOps F] in
theorem ownSems0_eq (c : Dev nD) : (Pipeline.ownSems0 (Ix := Unit) (Name := ℕ) (U := UU) (Lvl := ℕ) (Val := Elt F) (τ := τ) osem c : sProp 𝕄)
    = iprop(semVal (copyCell c) 0 ∗ (bigSep Finset.univ fun j : Fin 4 => semVal (xCell 0 c j) 0) ∗ (bigSep Finset.univ fun j : Fin 4 => semVal (xCell 1 c j) 0)
        ∗ (bigSep Finset.univ fun j : Fin 4 => semVal (xCell 2 c j) 0) ∗ (bigSep Finset.univ fun j : Fin 4 => semVal (xCell 3 c j) 0)) := by
  unfold Pipeline.ownSems0
  rw [bigSep_univ_sum, bigSep_univ_prod, bigSep_fin4]
  rw [bigSep_univ_eq_bigSepL [0] (by decide) (by decide) (fun a : Fin 1 => (semVal ((c.tc : Thread nD τ), osem (.inl a)) 0 : sProp 𝕄))]
  rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_kinds]
  iintro ⟨⟨H1, H2, H3, H4, H5⟩, HB⟩
  iframe HB H1 H2 H3 H4 H5

/-! ## The ghost state at launch -/

def exCells : Finset (GSem nD τ sig) := Finset.univ.map ⟨kcell, kcell_injective⟩
abbrev tokOf (x : Dev nD × CK × Fin 4) : GSem nD τ sig × ℕ × Fin 4 := (kcell (x.1, x.2.1), 0, x.2.2)
theorem tokOf_injective : Function.Injective tokOf := by
  rintro ⟨c, k, d⟩ ⟨c', k', d'⟩ h
  have h1 := kcell_injective (congrArg (fun x : GSem nD τ sig × ℕ × Fin 4 => x.1) h)
  have h2 : d = d' := congrArg (fun x : GSem nD τ sig × ℕ × Fin 4 => x.2.2) h
  obtain ⟨rfl, rfl⟩ := Prod.mk.inj h1
  rw [h2]
def exToks : Finset (GSem nD τ sig × ℕ × Fin 4) := Finset.univ.map ⟨tokOf, tokOf_injective⟩

def u₀ : UU :=
  (initOf (Pipeline.cells cfgs cellOf_inj) (Pipeline.launchToks cfgs cellOf_inj), initOf exCells exToks)

/-- A token for every semaphore of a device and every device that may pay it. -/
def toks (c : Dev nD) : sProp 𝕄 := bigSep Finset.univ fun k : CK => bigSep Finset.univ fun d : Fin 4 => dutyTok ER (kcell (c, k)) 0 d

/-- What the launch deals device `c`. -/
def G (c : Dev nD) : sProp 𝕄 :=
  iprop((bigSep Finset.univ fun k : CK => roundState ER (exRd m) (kcell (c, k)) 0)
    ∗ (bigSep Finset.univ fun k : CK => iprop(atPos ER (kcell (c, k)) 0 ∅ 0 ∗ reached ER (kcell (c, k)) 0)) ∗ toks c)

/-- The tokens of the payments device `c` makes; -/
def payToks (c : Dev nD) : sProp 𝕄 :=
  iprop((bigSep Finset.univ fun j : Fin 4 => peer c j (dutyTok ER (barCell j) 0 c)) ∗ dutyTok ER (copyCell c) 0 (0 : Fin 4)
    ∗ (bigSep Finset.univ fun j : Fin 4 => peer c j (dutyTok ER (xCell 0 c j) 0 (0 : Fin 4)))
    ∗ (bigSep Finset.univ fun j : Fin 4 => peer c j (dutyTok ER (xCell 1 j c) 0 (0 : Fin 4)))
    ∗ (bigSep Finset.univ fun j : Fin 4 => peer c j (dutyTok ER (xCell 2 c j) 0 (0 : Fin 4)))
    ∗ (bigSep Finset.univ fun j : Fin 4 => peer c j (dutyTok ER (xCell 3 j c) 0 (0 : Fin 4))))
/-- those, and its positions. -/
def linear (c : Dev nD) : sProp 𝕄 := iprop((bigSep Finset.univ fun k : CK => atPos ER (kcell (c, k)) 0 ∅ 0) ∗ payToks c)
def G' (c : Dev nD) : sProp 𝕄 := iprop((∃ K, recs m K) ∗ linear c)

omit [FloatOps F] in
theorem peer_intro (c j : Dev nD) (P : sProp 𝕄) : P ⊢ peer c j P := by
  unfold peer
  split
  · iintro -; iempintro
  · exact .rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_prod]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (exRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Two separating conjunctions over whole types commute. -/
theorem bigSep_swap (Φ : Fin 4 → Fin 4 → sProp 𝕄) : (bigSep Finset.univ fun a => bigSep Finset.univ fun b => Φ a b)
    = bigSep Finset.univ fun b => bigSep Finset.univ fun a => Φ a b := by
  rw [← bigSep_univ_prod (fun x : Fin 4 × Fin 4 => Φ x.1 x.2), bigSep_univ_equiv (Equiv.prodComm (Fin 4) (Fin 4)),
    ← bigSep_univ_prod (fun x : Fin 4 × Fin 4 => Φ x.2 x.1)]
  rfl

omit [FloatOps F] in
/-- The tokens of the semaphores dealt to the devices that pay them. -/
theorem toks_around : (bigSep Finset.univ fun c : Dev nD => (toks c : sProp 𝕄)) ⊢ bigSep Finset.univ fun c : Dev nD => payToks c := by
  have own0 (g : GSem nD τ sig) : (bigSep Finset.univ fun d : Fin 4 => (dutyTok ER g 0 d : sProp 𝕄)) ⊢ dutyTok ER g 0 (0 : Fin 4) :=
    bigSep_elim (Finset.mem_univ 0)
  have deal : (bigSep Finset.univ fun c : Dev nD => (toks c : sProp 𝕄)) = bigSep Finset.univ fun c : Dev nD =>
      iprop((bigSep Finset.univ fun d : Fin 4 => dutyTok ER (barCell d) 0 c) ∗ (bigSep Finset.univ fun d : Fin 4 => dutyTok ER (copyCell c) 0 d)
        ∗ (bigSep Finset.univ fun j : Fin 4 => bigSep Finset.univ fun d : Fin 4 => dutyTok ER (xCell 0 c j) 0 d)
        ∗ (bigSep Finset.univ fun j : Fin 4 => bigSep Finset.univ fun d : Fin 4 => dutyTok ER (xCell 1 j c) 0 d)
        ∗ (bigSep Finset.univ fun j : Fin 4 => bigSep Finset.univ fun d : Fin 4 => dutyTok ER (xCell 2 c j) 0 d)
        ∗ (bigSep Finset.univ fun j : Fin 4 => bigSep Finset.univ fun d : Fin 4 => dutyTok ER (xCell 3 j c) 0 d)) := by
    unfold toks
    simp only [bigSep_kinds, bigSep_sep']
    rw [bigSep_swap (fun (c : Dev nD) (d : Fin 4) => (dutyTok ER (barCell c) 0 d : sProp 𝕄)),
      bigSep_swap (fun (c : Dev nD) (j : Fin 4) => (bigSep Finset.univ fun d : Fin 4 => dutyTok ER (xCell 1 c j) 0 d : sProp 𝕄)),
      bigSep_swap (fun (c : Dev nD) (j : Fin 4) => (bigSep Finset.univ fun d : Fin 4 => dutyTok ER (xCell 3 c j) 0 d : sProp 𝕄))]
  rw [deal]
  unfold payToks
  exact bigSep_mono fun c _ => sep_mono (bigSep_mono fun j _ => peer_intro c j _) (sep_mono (own0 _)
    (sep_mono (bigSep_mono fun j _ => (own0 _).trans (peer_intro c j _)) (sep_mono (bigSep_mono fun j _ => (own0 _).trans (peer_intro c j _))
      (sep_mono (bigSep_mono fun j _ => (own0 _).trans (peer_intro c j _)) (bigSep_mono fun j _ => (own0 _).trans (peer_intro c j _))))))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (exRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (exRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (exRd m) κ (kcell ck) : sProp 𝕄))) $$ HI
  icases HK with ⟨%K, #HI⟩
  ihave Htk := (toks_around (F := F)) $$ Htok
  iapply (bigSep_with_persistent (R := recs m K) (Φ := fun c : Dev nD => linear c) fun c _ => show iprop(recs m K ∗ linear c) ⊢ G' m c from by
    unfold G'
    iintro ⟨HK, Hl⟩
    isplitl [HK]; · iexists K; iexact HK
    iexact Hl)
  isplitr
  · unfold recs; isplitl; · iexact HI
    iexact HR
  · unfold linear
    irw [bigSep_sep']
    isplitl [Hat]; · iexact Hat
    iexact Htk

/-- The one update at launch: every device's semaphores become the protocol's. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owed_sum (c : Dev nD) : O₀ c = (∑ j : Fin 4, tb c j) + (∑ j : Fin 4, tr c j) + ∑ j : Fin 4, ta c j := by
  rw [Fin.sum_univ_four, Fin.sum_univ_four, Fin.sum_univ_four]
  show ((((((((((((0 + ta c 3) + ta c 2) + ta c 1) + ta c 0) + tr c 3) + tr c 2) + tr c 1) + tr c 0) + tb c 3) + tb c 2) + tb c 1) + tb c 0) = _
  abel

/-- What the others owe device `c`. -/
def due (c : Dev nD) : CellTallies nD τ sig Unit := (∑ j : Fin 4, tb j c) + (∑ j : Fin 4, tr j c) + ∑ j : Fin 4, ta j c

theorem due_sum : (∑ d, O₀ d) = ∑ d, due d := by
  unfold due
  rw [Finset.sum_congr rfl fun d _ => owed_sum d]
  simp only [Finset.sum_add_distrib]
  rw [Finset.sum_comm (f := fun d j => tb d j), Finset.sum_comm (f := fun d j => tr d j), Finset.sum_comm (f := fun d j => ta d j)]

/-- A tally on a semaphore of device `c` is on device `c`. -/
theorem on_device (c : Dev nD) (k : CK) (N : ℕ) (P : Prop) [Decidable P] (g : GSem nD τ sig)
    (h : (if P then 0 else tallyAt (kcell (c, k)) () N : CellTallies nD τ sig Unit) g ≠ 0) : g.1 = (c.tc : Thread nD τ) := by
  split at h
  · exact absurd rfl h
  · by_contra hg
    exact h (tallyAt_ne_cell (fun he => hg (congrArg (fun x : GSem nD τ sig => x.1) he)) () N)

theorem due_on (d : Dev nD) (g : GSem nD τ sig) (h : due d g ≠ 0) : g.1 = (d.tc : Thread nD τ) := by
  by_contra hg
  refine h ?_
  have z (f : Fin 4 → CellTallies nD τ sig Unit) (hf : ∀ j, f j g = 0) : (∑ j : Fin 4, f j) g = 0 := by
    rw [Finset.sum_apply]; exact Finset.sum_eq_zero fun j _ => hf j
  unfold due
  rw [Pi.add_apply, Pi.add_apply, z (fun j => tb j d) fun j => by_contra fun hj => hg (on_device d _ _ _ g hj),
    z (fun j => tr j d) fun j => by_contra fun hj => hg (on_device d _ _ _ g hj), z (fun j => ta j d) fun j => by_contra fun hj => hg (on_device d _ _ _ g hj)]
  rw [add_zero, add_zero]

theorem bar_sum (c : Dev nD) : (∑ j : Fin 4, tb j c) = (tallyAt (barCell c) () 3 : CellTallies nD τ sig Unit) := by
  unfold tb
  rw [show (∑ j : Fin 4, if c = j then (0 : CellTallies nD τ sig Unit) else tallyAt (barCell c) () 1)
      = ∑ j : Fin 4, tallyAt (barCell c) () (if c = j then 0 else 1) from Finset.sum_congr rfl fun j _ => by
    split
    · exact (tallyAt_zero _ _).symm
    · rfl]
  rw [Fin.sum_univ_four, tallyAt_add, tallyAt_add, tallyAt_add]
  congr 1
  revert c; decide

omit [FloatOps F] in
theorem cred_peer (c j : Dev nD) (k : CK) (N : ℕ) :
    (cred (if c = j then 0 else tallyAt (kcell (c, k)) () N : CellTallies nD τ sig Unit) : sProp 𝕄) ⊢ peer c j (cred (tallyAt (kcell (c, k)) () N)) := by
  unfold peer
  by_cases h : j = c
  · rw [if_pos h, if_pos h.symm]; iintro -; iempintro
  · rw [if_neg h, if_neg (Ne.symm h)]

omit [FloatOps F] in
/-- The credit device `c` starts with. -/
theorem creds (c : Dev nD) :
    (Pipeline.launchCred O₀ c : sProp 𝕄) ⊢ iprop(cred (tallyAt (barCell c) () 3)
      ∗ (bigSep Finset.univ fun j : Fin 4 => peer c j (cred (tallyAt (xCell 1 c j) () Nx)))
      ∗ (bigSep Finset.univ fun j : Fin 4 => peer c j (cred (tallyAt (xCell 3 c j) () Na)))) := by
  rw [Pipeline.launchCred_of_sum (fun d => O₀ d) due due_sum due_on c]
  unfold due
  rw [bar_sum]
  refine (cred_add _ _).1.trans ?_
  refine (sep_mono_left (cred_add _ _).1).trans ?_
  rw [Pipeline.cred_finsetSum, Pipeline.cred_finsetSum]
  iintro ⟨⟨H1, H2⟩, H3⟩
  isplitl [H1]; · iexact H1
  isplitl [H2]
  · iapply (show (bigSep Finset.univ fun j : Fin 4 => (cred (tr j c) : sProp 𝕄)) ⊢ bigSep Finset.univ fun j : Fin 4 => peer c j (cred (tallyAt (xCell 1 c j) () Nx)) from
      bigSep_mono fun j _ => cred_peer c j _ _)
    iexact H2
  iapply (show (bigSep Finset.univ fun j : Fin 4 => (cred (ta j c) : sProp 𝕄)) ⊢ bigSep Finset.univ fun j : Fin 4 => peer c j (cred (tallyAt (xCell 3 c j) () Na)) from
    bigSep_mono fun j _ => cred_peer c j _ _)
  iexact H3

/-! ## The launch theorem's side conditions -/

/-- What device `c`'s invariant starts from, its scratch buffers aside. -/
def start (c : Dev nD) : sProp 𝕄 :=
  iprop((∃ K, recs m K) ∗ levAts L lv ∗ exA c ∗ exX c ∗ (((c : Thread nD τ).loc main_arg0) ↦{fullShare} xin m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hrest : (Pipeline.unscopedRestP Pipeline.Prefetch.none cfg0.spec c (fun b => m ((c : Thread nD τ).loc b)) : sProp 𝕄)
      = (((c : Thread nD τ).loc main_arg0) ↦{fullShare} xin m c) := by
    rw [show (Pipeline.unscopedRestP Pipeline.Prefetch.none cfg0.spec c (fun b => m ((c : Thread nD τ).loc b)) : sProp 𝕄)
      = Pipeline.unscopedRest cfg0.spec c (fun b => m ((c : Thread nD τ).loc b)) from by unfold Pipeline.unscopedRestP Pipeline.unscopedRest; rfl]
    exact unscopedRest0_eq c _
  unfold G' linear payToks
  iintro ⟨Hx, Hlev, Hcr, -, HK, Hat, HtB, HtC, Ht0, Ht1, Ht2, Ht3⟩
  ihave Hx := (Entails.of_eq hrest) $$ Hx
  ihave Hc := (creds (F := F) c) $$ Hcr
  ihave Ha := (Entails.of_eq (bigSep_kinds (F := F) fun k => atPos ER (kcell (c, k)) 0 ∅ 0)) $$ Hat
  icases Hc with ⟨HcB, HcR, HcM⟩
  icases Ha with ⟨HaB, HaC, Ha0, Ha1, Ha2, Ha3⟩
  imodintro
  isplitl
  · unfold start exA exX
    isplitl [HK]; · iexact HK
    isplitl [Hlev]; · iexact Hlev
    isplitl [HcB HaB HaC HtC Ha0 Ha1 HtB Ht0 Ht1 HcR]
    · iframe HcB HaB HaC HtC Ha0 Ha1 HtB Ht0 Ht1 HcR
    isplitr [Hx]
    · iframe Ha2 Ha3 Ht2 Ht3 HcM
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = stStart m c from rfl, scopedRest0_eq]
  unfold start stStart
  iintro ⟨⟨HK, Hl, HA, HX, Hx⟩, -, H0, H1, H2, H6, H7, H10⟩
  isplitl [HK]; · iexact HK
  isplitl [Hl]; · iexact Hl
  isplitl [HA]; · iexact HA
  isplitl [HX]; · iexact HX
  isplitl [Hx]; · iexact Hx
  isplitl [H0]; · iexact H0
  isplitl [H1]; · iexact H1
  isplitl [H2]; · iexact H2
  isplitl [H6]; · iexact H6
  isplitl [H7]; · iexact H7
  iexact H10

theorem phi_exit (c : Dev nD) :
    (dats m 0 c).Φ (Fin.last cfg0.N)
      ⊢ iprop((unscopedSems0 c ∗ (((c : Thread nD τ).loc main_arg0) ↦{fullShare} xin m c)) ∗ Pipeline.ownSems0 osem c ∗ Pipeline.scopedRest cfg0.spec c) := by
  have h160 : (Fin.last cfg0.N).val = 160 := N_0
  rw [phi_at, show stAt m c (Fin.last cfg0.N).val = stEnd m c by unfold stAt; rw [h160, if_neg (by omega), if_neg (by omega)],
    scopedRest0_eq, ownSems0_eq, unscopedSems0_eq]
  unfold stEnd endR exA' exX'
  iintro ⟨%f, %g, -, ⟨HX2, HX3⟩, ⟨HB, HC, HX0, HX1⟩, Hx, Hc, Hb, Hy, Hg, Hs, Hr⟩
  isplitl [HB Hx]
  · isplitl [HB]; · iexact HB
    iexact Hx
  isplitl [HC HX0 HX1 HX2 HX3]
  · iframe HC HX0 HX1 HX2 HX3
  isplitl [Hc]; · iexists _; iexact Hc
  isplitl [Hy]; · iexists _; iexact Hy
  isplitl [Hb]; · iexact Hb
  isplitl [Hs]; · iexists _; iexact Hs
  isplitl [Hr]; · iexists _; iexact Hr
  iexists _; iexact Hg

theorem above_owed (c : Dev nD) (t : ℕ) : Above 0 (owedAt c t) := by
  unfold owedAt
  split
  · exact above_owB c 4
  · split
    · exact (above_owA c 4).mono (by decide)
    · exact (above_owA c 0).mono (by decide)

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (above_owed c _)

theorem share_eq (c : Dev nD) (w : Fin cfg0.W) : (dats m 0 c).share w = fullShare := by unfold Dat.share; split <;> rfl

/-! ## The run -/

/-- What window `w`'s array holds on device `c` after the last point. -/
def finalA (c : Dev nD) (w : Fin cfg0.W) : Buf (Elt F) ((cfg0.win w).arr.view.loc (c : Thread nD τ)) := (dats m 0 c).arrAt w cfg0.N

set_option maxRecDepth 8000 in
/-- From any memory with zero counters, on every mesh of four devices, every fair execution of the kernel terminates; in
    every final state the windows' arrays hold what the points wrote, `x` is unchanged and every counter is at zero. -/
theorem run_main : θ_run defs (onTc (τ := τ) (main (F := F))) (s₀ m ρ) (fun r =>
    ((∀ c : Dev nD, ∀ w : Fin cfg0.W, r.2.mem ((cfg0.win w).arr.view.loc (c : Thread nD τ)) = finalA m c w)
      ∧ ∀ c : Dev nD, r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun c => O₀ c) (howed₀ := fun _ => rfl)
    (howedN := fun c => by
      show owedAt c (Fin.last cfg0.N).val = 0
      rw [show (Fin.last cfg0.N).val = 160 from N_0]; rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => iprop(unscopedSems0 c ∗ (((c : Thread nD τ).loc main_arg0) ↦{fullShare} xin m c))) (Z := fun _ => iprop(emp))
    (hX := start_intro m ρ) (hin := phi0_intro m) (hout := phi_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Hx⟩, -, HSI⟩
      imod (Pipeline.unscopedSems0_read (X := unscopedSems0 c) (c := c) fupd_intro s') $$ [Hu HSI] with ⟨%h1, HSI⟩
      · isplitl [Hu] <;> iassumption
      ihave H := (pointsTo_read_all {()} (fun _ : Unit => (c : Thread nD τ).loc main_arg0) (fun _ => xin m c) s') $$ [Hx HSI]
      · irw [bigSep_singleton]
        isplitl [Hx] <;> iassumption
      icases H with ⟨%h2, HSI⟩
      imodintro
      isplitr
      · ipureintro; exact ⟨h1, h2 () (Finset.mem_singleton_self _)⟩
      iexact HSI)
    (hQ := fun _ h hs => ⟨⟨fun c w => (h c).1 w, fun c => (h c).2.2.2⟩, sem_eq_zero hs fun c => (h c).2.2.1⟩)

/-- Every run terminates with the arguments unchanged and every counter at zero; -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨h.1.2 c, (h.1.1 c 0).trans (((dats m 0 c).arrAt_in 0 rfl _).trans (V_main_arg1 m c))⟩, h.2⟩)
    (run_main m ρ)

/-- and with each device's result at what the points wrote to it. -/
theorem value_main : θ_run defs (onTc (τ := τ) (main (F := F))) ⟨m, fun _ => 0, ρ⟩ (fun r => ∀ c : Dev nD,
      r.2.mem ((c.tc : Thread nD τ).loc main_v1) = finalA m c 1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h.1.1 c 1, h.1.2 c, (h.1.1 c 0).trans (((dats m 0 c).arrAt_in 0 rfl _).trans (V_main_arg1 m c))⟩)
    (run_main m ρ)

end Cert.KernelIdealProof

end
-- ==== Proof.KernelIdealArray.lean ====
/-
# The result array after the run, and the blocks of `w`

The grid's last 32 points write the result back, point `128 + n` the columns `256 n … 256 n + 255`. Together they cover the
array, so it ends holding the tiles `outC` side by side. The block of `w` staged at point `t < 128` is rows
`1024 (t / 32) …` and columns `256 (t % 32) …` of `w`.
-/
module

public import proofs.«01_k».proof.Proof.KernelIdealRun
public import Idealize.ShloMosaic.Lib.Pipeline.Value

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- The result array of device `c`: the tiles side by side. -/
def resC (c : Dev nD) : S1024x8192.Idx → Elt F .f32 := fun i =>
  outC m c ((i 1).val / 256) (ix2 (n0 := 1024) (n1 := 256) (i 0) ⟨(i 1).val % 256, Nat.mod_lt _ (by norm_num)⟩)

theorem row_index1 : ∀ t : Fin cfg0.N, win0_1.index t 0 = 0 := by decide +kernel
theorem col_index1 : ∀ t : Fin cfg0.N, 128 ≤ t.val → win0_1.index t 1 = t.val % 32 := by decide +kernel
theorem row_index0 : ∀ t : Fin cfg0.N, t.val < 128 → win0_0.index t 0 = t.val / 32 := by decide +kernel
theorem col_index0 : ∀ t : Fin cfg0.N, t.val < 128 → win0_0.index t 1 = t.val % 32 := by decide +kernel

/-- Where the result's block at point `t` puts the element `(r, j)`, -/
theorem blk1_emb (t : Fin cfg0.N) (ht : 128 ≤ t.val) (r : Fin 1024) (j : Fin 256) :
    (((cfg0.win 1).blk t).view.emb (ix2 (n0 := 1024) (n1 := 256) r j) : S1024x8192.Idx)
      = ix2 (n0 := 1024) (n1 := 8192) r ⟨256 * (t.val % 32) + j.val, by have := j.isLt; have := Nat.mod_lt t.val (show 0 < 32 by norm_num); omega⟩ := by
  funext a
  refine Fin.ext ?_
  fin_cases a
  · show win0_1.index t 0 * 1024 + 1 * r.val = r.val
    rw [row_index1]; omega
  · show win0_1.index t 1 * 256 + 1 * j.val = 256 * (t.val % 32) + j.val
    rw [col_index1 t ht]; omega

/-- and where the element `(k, j)` of the block of `w` at point `t` is in `w`. -/
theorem blk0_emb (t : Fin cfg0.N) (ht : t.val < 128) (k : Fin 1024) (j : Fin 256) :
    @Eq S4096x8192.Idx ((win0_0.blk t).view.emb (ix2 (n0 := 1024) (n1 := 256) k j))
      <| ix2 (n0 := 4096) (n1 := 8192) ⟨1024 * (t.val / 32) + k.val, by have := k.isLt; omega⟩
          ⟨256 * (t.val % 32) + j.val, by have := j.isLt; have := Nat.mod_lt t.val (show 0 < 32 by norm_num); omega⟩ := by
  funext a
  refine Fin.ext ?_
  fin_cases a
  · show win0_0.index t 0 * 1024 + 1 * k.val = 1024 * (t.val / 32) + k.val
    rw [row_index0 t ht]; omega
  · show win0_0.index t 1 * 256 + 1 * j.val = 256 * (t.val % 32) + j.val
    rw [col_index0 t ht]; omega

/-- The write-back at a late point writes that point's block of `resC`. -/
theorem flushed_res (c : Dev nD) (t : Fin cfg0.N) (hf : (cfg0.win 1).flush t = true) :
    (dats m 0 c).flushed 1 t = ((cfg0.win 1).blk t).view.read (Elt F) (resC m c) := by
  have ht : 128 ≤ t.val := by rw [flush1] at hf; exact of_decide_eq_true hf
  show (cfg0.win 1).cut (grid0.coords t) ((dats m 0 c).after 1 t) = _
  funext y
  obtain ⟨r, j, rfl⟩ : ∃ (r : Fin 1024) (j : Fin 256), y = ix2 (n0 := 1024) (n1 := 256) r j := ⟨y 0, y 1, eq_ix2 y⟩
  show outC m c (t.val % 32) (ix2 (n0 := 1024) (n1 := 256) r j) = resC m c (((cfg0.win 1).blk t).view.emb (ix2 (n0 := 1024) (n1 := 256) r j))
  rw [blk1_emb t ht]
  have hj := j.isLt
  have h1 : (256 * (t.val % 32) + j.val) / 256 = t.val % 32 := by omega
  have h2 : (256 * (t.val % 32) + j.val) % 256 = j.val := by omega
  show _ = outC m c ((256 * (t.val % 32) + j.val) / 256) (ix2 (n0 := 1024) (n1 := 256) r ⟨(256 * (t.val % 32) + j.val) % 256, _⟩)
  have e : ∀ (q : ℕ) (b : ℕ) (hb : b < 256), q = t.val % 32 → b = j.val →
      outC m c (t.val % 32) (ix2 (n0 := 1024) (n1 := 256) r j) = outC m c q (ix2 (n0 := 1024) (n1 := 256) r ⟨b, hb⟩) := by
    rintro q b hb rfl rfl; rfl
  exact e _ _ _ h1 h2

/-- So the result array ends holding `resC`. -/
theorem final_res (c : Dev nD) : finalA m c 1 = resC m c :=
  (dats m 0 c).arrAt_eq_of_cover 1 (resC m c) (flushed_res m c) fun i => by
    have h0 : (i 0 : Nat) < 1024 := (i 0).isLt
    have h1 : (i 1 : Nat) < 8192 := (i 1).isLt
    have ht : 128 + (i 1 : Nat) / 256 < cfg0.N := by rw [show cfg0.N = 160 from N_0]; omega
    refine ⟨⟨128 + (i 1 : Nat) / 256, ht⟩, ?_, ?_⟩
    · rw [flush1]; exact decide_eq_true (Nat.le_add_right _ _)
    · show i ∈ ((View.whole main_v1).slice (win0_1.rect ⟨128 + (i 1 : Nat) / 256, ht⟩)).set
      rw [View.set_slice_whole, Rect.mem_set_unit]
      intro a
      match a with
      | ⟨0, _⟩ =>
        show win0_1.index ⟨128 + (i 1 : Nat) / 256, ht⟩ 0 * 1024 ≤ (i 0 : Nat) ∧ (i 0 : Nat) < win0_1.index ⟨128 + (i 1 : Nat) / 256, ht⟩ 0 * 1024 + 1024
        rw [row_index1]; omega
      | ⟨1, _⟩ =>
        show win0_1.index ⟨128 + (i 1 : Nat) / 256, ht⟩ 1 * 256 ≤ (i 1 : Nat) ∧ (i 1 : Nat) < win0_1.index ⟨128 + (i 1 : Nat) / 256, ht⟩ 1 * 256 + 256
        rw [col_index1 _ (Nat.le_add_right _ _)]
        dsimp only
        omega

/-- The element `(k, j)` of the block of `w` staged at point `t < 128`. -/
theorem wB_apply (c : Dev nD) (t : ℕ) (ht : t < 128) (k : Fin 1024) (j : Fin 256) :
    wB m c t (ix2 (n0 := 1024) (n1 := 256) k j)
      = (m ((c : Thread nD τ).loc main_arg1) : S4096x8192.Idx → Elt F .f32)
          (ix2 (n0 := 4096) (n1 := 8192) ⟨1024 * (t / 32) + k.val, by have := k.isLt; omega⟩
            ⟨256 * (t % 32) + j.val, by have := j.isLt; have := Nat.mod_lt t (show 0 < 32 by norm_num); omega⟩) := by
  unfold wB
  rw [dif_pos (show t < 160 by omega)]
  have hN : t < cfg0.N := lt_of_lt_of_eq (show t < 160 by omega) N_0.symm
  exact congrArg (fun i : S4096x8192.Idx => (m ((c : Thread nD τ).loc main_arg1) : S4096x8192.Idx → Elt F .f32) i)
    (blk0_emb (⟨t, hN⟩ : Fin cfg0.N) ht k j)

/-- The element `(r, k)` of slot `p` of the gathered blocks, before the cast to the product's format. -/
theorem slot_apply (c : Dev nD) (p : Fin 4) (u : Fin 1) (r k : Fin 1024) :
    cW.view.readAt (Elt F) (cR p).toLoadRect (commC m c) (ix3 (n0 := 1) (n1 := 1024) (n2 := 1024) u r k)
      = xin m p (ix2 (n0 := 4096) (n1 := 1024) ⟨1024 * c.val + r.val, by have := r.isLt; have h2 : c.val < 4 := c.isLt; omega⟩ k) := by
  have e : cW.view.readAt (Elt F) (cR p).toLoadRect (commC m c) (ix3 (n0 := 1) (n1 := 1024) (n2 := 1024) u r k)
      = commC m c (ix3 (n0 := 4) (n1 := 1024) (n2 := 1024) p r k) := by
    show commC m c _ = commC m c _
    congr 1
    funext d
    fin_cases d
    · exact Fin.ext (by show p.val + 1 * u.val = p.val; omega)
    · exact Fin.ext (by show 0 + 1 * r.val = r.val; omega)
    · exact Fin.ext (by show 0 + 1 * k.val = k.val; omega)
  rw [e]
  rfl

end Cert.KernelIdealProof

end
-- ==== Proof.KernelIdealArith.lean ====
/-
# The scalar side of the quantizer

On the extended reals the kernel scales by the reciprocal `127 / g` of the step, clamps to `[0, 127]` and multiplies by the
step `g / 127`; the reference divides by the step and clamps to `[-127, 127]`. For a value `y` with `0 ≤ y ≤ g` the two give
the same number: at `g = 0` and at `g = ⊤` both are zero, and elsewhere the two quotients are the same and not negative.
-/
module

public import proofs.«01_k».proof.Proof.KernelIdealCells
public import Idealize.ShloMosaic.Lib.IdealHost

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- The nearest integer (ties to even) of a real that is not negative is not negative. -/
theorem half_even_nonneg {r : ℝ} (h : 0 ≤ r) : 0 ≤ Ideal.roundHalfEven r := by
  have hf : 0 ≤ ⌊r⌋ := Int.floor_nonneg.mpr h
  unfold Ideal.roundHalfEven
  dsimp only
  split_ifs <;> omega

/-- Rounding keeps an extended real that is not negative from being negative. -/
theorem round_nonneg {x : EReal} (h : 0 ≤ x) : 0 ≤ Ideal.liftRound Ideal.roundHalfEven x := by
  induction x with
  | bot => exact h
  | top => exact h
  | coe r =>
    rw [Ideal.liftRound_coe]
    exact EReal.coe_nonneg.mpr (Int.cast_nonneg (half_even_nonneg (EReal.coe_nonneg.mp h)))

/-- The bit pattern `0x42FE0000` is the real 127. -/
theorem bits_127 : Ideal.ofBits .f32 0x42FE0000#32 = ((127 : ℝ) : EReal) := by
  simp [Ideal.ofBits, Ideal.ieee, -EReal.coe_mul]; norm_num

/-- The bit pattern `0xC2FE0000` is the real -127. -/
theorem bits_neg_127 : Ideal.ofBits .f32 0xC2FE0000#32 = ((-127 : ℝ) : EReal) := by
  simp [Ideal.ofBits, Ideal.ieee, -EReal.coe_mul, -EReal.coe_neg]; norm_num

/-- The bit pattern `0xFF800000` is the least extended real. -/
theorem bits_neg_inf : Ideal.ofBits .f32 0xFF800000#32 = (⊥ : EReal) := by
  simp [Ideal.ofBits, Ideal.ieee]

/-- For a maximum `g` that is not zero the kernel's quotient is the reference's. -/
theorem quotient_eq {y g : EReal} (h0 : 0 ≤ g) (hg : g ≠ 0) :
    y * Ideal.div ((127 : ℝ) : EReal) g = Ideal.div y (Ideal.div g ((127 : ℝ) : EReal)) := by
  have h127 : ((127 : ℝ) : EReal) ≠ 0 := by
    intro h; have := EReal.coe_eq_zero.mp h; norm_num at this
  have hd : Ideal.div g ((127 : ℝ) : EReal) = g * ((127 : ℝ) : EReal)⁻¹ := if_neg h127
  have hk : Ideal.div ((127 : ℝ) : EReal) g = ((127 : ℝ) : EReal) * g⁻¹ := if_neg hg
  rw [hd, hk, ← EReal.coe_inv]
  induction g with
  | bot => exact absurd h0 (by simp)
  | top =>
    rw [EReal.top_mul_coe_of_pos (by norm_num)]
    unfold Ideal.div
    rw [if_neg (by simp), EReal.inv_top, mul_zero]
  | coe r =>
    have hr : r ≠ 0 := fun h => hg (by rw [h]; rfl)
    have hn : r * (127 : ℝ)⁻¹ ≠ 0 := mul_ne_zero hr (by norm_num)
    unfold Ideal.div
    rw [← EReal.coe_mul, if_neg (fun h => hn (EReal.coe_eq_zero.mp h)), ← EReal.coe_inv, ← EReal.coe_inv, ← EReal.coe_mul]
    congr 2
    rw [mul_inv, inv_inv, mul_comm]

/-- The kernel's quantizer and the reference's agree on a value between zero and the maximum. -/
theorem quant_eq {y g : EReal} (hy : 0 ≤ y) (hyg : y ≤ g) :
    min ((127 : ℝ) : EReal) (max 0 (Ideal.liftRound Ideal.roundHalfEven (y * Ideal.div ((127 : ℝ) : EReal) g)))
        * Ideal.div g ((127 : ℝ) : EReal)
      = min ((127 : ℝ) : EReal) (max ((-127 : ℝ) : EReal)
          (Ideal.liftRound Ideal.roundHalfEven (Ideal.div y (Ideal.div g ((127 : ℝ) : EReal)))))
        * Ideal.div g ((127 : ℝ) : EReal) := by
  have h0 : (0 : EReal) ≤ g := hy.trans hyg
  have h127 : ((127 : ℝ) : EReal) ≠ 0 := by
    intro h; have := EReal.coe_eq_zero.mp h; norm_num at this
  by_cases hg : g = 0
  · have hd : Ideal.div g ((127 : ℝ) : EReal) = 0 := by
      rw [hg]; exact Ideal.zero_div h127
    rw [hd, mul_zero, mul_zero]
  · have hq : 0 ≤ Ideal.div ((127 : ℝ) : EReal) g := by
      unfold Ideal.div
      rw [if_neg hg]
      exact mul_nonneg (EReal.coe_nonneg.mpr (by norm_num)) (EReal.inv_nonneg_of_nonneg h0)
    have hr := round_nonneg (mul_nonneg hy hq)
    rw [quotient_eq h0 hg] at hr ⊢
    have hm : ((-127 : ℝ) : EReal) ≤ 0 := EReal.coe_nonpos.mpr (by norm_num)
    rw [max_eq_right hr, max_eq_right (hm.trans hr)]

end Cert.KernelIdealProof

end
-- ==== Proof.KernelIdealPays.lean ====
/-
# The kernel's vector expressions at an index, on the extended reals

The casts are the identity, a product is the sum over the contracted coordinate, and a maximum over a block is the least
number not below any of its elements. Maxima are described by their upper bounds: `x ≤ b` exactly when every element is.
-/
module

public import proofs.«01_k».proof.Proof.KernelIdealArith
public import Idealize.ShloMosaic.Lib.Pipeline.Value
public import Idealize.ShloMosaic.Lib.MatmulPlain

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- A reshaped array satisfies at every index what the array does. -/
theorem cast_forall {α : Type} {s t : Shape} (x : s.Idx → α) (h : s.ShapeCasts t) (P : α → Prop) :
    (∀ j, P (shapeCast t x h j)) ↔ ∀ i, P (x i) :=
  (Shape.reshapeEquiv h).forall_congr_right (q := fun i => P (x i))

/-- The bounds of a maximum over a whole block. -/
theorem block_max_le {s t : Shape} {axes : List (Fin s.rank)} [Subsingleton t.Idx] (src : FVec Ideal s .f32)
    (h : s.Reduces axes t) (hφ : FKind.Formats .f32) (hacc : (0xFF800000#32 : BitVec 32) = FKind.maximumf.neutral .f32 hφ) (j : t.Idx) (b : EReal) :
    multiReduction .maximumf axes t src 0xFF800000#32 h hφ hacc j ≤ b ↔ ∀ i, src i ≤ b := by
  rw [multiReduction_maximumf_eq_fold]
  show Finset.fold max (Ideal.ofBits .f32 0xFF800000#32) src _ ≤ b ↔ _
  rw [Finset.fold_max_le, bits_neg_inf]
  constructor
  · intro H i
    exact H.2 i (Finset.mem_filter.mpr ⟨Finset.mem_univ _, Subsingleton.elim _ _⟩)
  · intro H
    exact ⟨bot_le, fun i _ => H i⟩

instance : Subsingleton S1.Idx := ⟨fun a b => by
  rw [eq_ix1 (n := 1) a, eq_ix1 (n := 1) b]
  exact congrArg (ix1 (n := 1)) (Subsingleton.elim _ _)⟩

/-- The cast slot at `(r, k)`. -/
theorem pay1_apply (v : Vec Ideal S1x1024x1024 .f32) (r k : Fin 1024) :
    k0_pay1 v (ix2 (n0 := 1024) (n1 := 1024) r k) = v (ix3 (n0 := 1) (n1 := 1024) (n2 := 1024) 0 r k) := by
  unfold k0_pay1
  rw [shapeCast_self]
  exact shapeCast_1ab_ab_apply (a := 1024) (b := 1024) v _ r k

/-- A step's product at `(r, j)`. -/
theorem pay2_apply (w : Vec Ideal S1024x256 .f32) (x : Vec Ideal S1024x1024 .bf16) (r : Fin 1024) (j : Fin 256) :
    k0_pay2 w x (ix2 (n0 := 1024) (n1 := 256) r j)
      = ∑ k : Fin 1024, (x (ix2 (n0 := 1024) (n1 := 1024) r k) * w (ix2 (n0 := 1024) (n1 := 256) k j) : EReal) := by
  unfold k0_pay2
  rw [shapeCast_self]
  refine (Ideal.matmul_plain_apply (M := 1024) (K := 1024) (N := 256) none x (truncf .bf16 w bitsLt_bf16_f32) _ r j).trans ?_
  show Ideal.ofBits .f32 0x00000000#32 + _ = _
  rw [Ideal.ofBits_zero_f32, zero_add]
  rfl

/-- The first step's tile. -/
theorem pay3_apply (w : Vec Ideal S1024x256 .f32) (x : Vec Ideal S1024x1024 .bf16) (u : Fin 1) (r : Fin 1024) (j : Fin 256) :
    k0_pay3 w x (ix3 (n0 := 1) (n1 := 1024) (n2 := 256) u r j) = k0_pay2 w x (ix2 (n0 := 1024) (n1 := 256) r j) := by
  unfold k0_pay3
  exact shapeCast_ab_1ab_apply (a := 1024) (b := 256) _ _ u r j

/-- A later step's tile. -/
theorem pay4_apply (w : Vec Ideal S1024x256 .f32) (x : Vec Ideal S1024x1024 .bf16) (v : Vec Ideal S1x1024x256 .f32) (u : Fin 1) (r : Fin 1024) (j : Fin 256) :
    k0_pay4 w x v (ix3 (n0 := 1) (n1 := 1024) (n2 := 256) u r j)
      = (v (ix3 (n0 := 1) (n1 := 1024) (n2 := 256) 0 r j) + k0_pay2 w x (ix2 (n0 := 1024) (n1 := 256) r j) : EReal) := by
  unfold k0_pay4
  refine (shapeCast_ab_1ab_apply (a := 1024) (b := 256) _ _ u r j).trans ?_
  rw [addf_apply]
  exact congrArg (· + k0_pay2 w x (ix2 (n0 := 1024) (n1 := 256) r j)) (shapeCast_1ab_ab_apply (a := 1024) (b := 256) v _ r j)

/-- The one element of a reshaped array of one element. -/
theorem extract_cast {α : Type} {s t : Shape} [Subsingleton s.Idx] (x : s.Idx → α) (h : s.ShapeCasts t) (pos : Fin t.rank → Nat)
    (hp : ∀ a, pos a < t.size a) (j : s.Idx) : extractAt pos (shapeCast t x h) hp = x j :=
  congrArg x (Subsingleton.elim _ _)

theorem scalar_zero : (Scalar.ofBits .f32 0x00000000#32 : Ideal .f32) = (0 : EReal) := Ideal.ofBits_zero_f32
theorem scalar_127 : (Scalar.ofBits .f32 0x42FE0000#32 : Ideal .f32) = ((127 : ℝ) : EReal) := bits_127

/-- The bounds of a tile's largest positive element. -/
theorem pay5_le (v : Vec Ideal S1x1024x256 .f32) (b : EReal) : k0_pay5 v ≤ b ↔ (∀ i, v i ≤ b) ∧ 0 ≤ b := by
  unfold k0_pay5
  dsimp only
  rw [Ideal.scalar_maximumf_def, scalar_zero, extract_cast _ _ _ _ (ix1 (n := 1) 0)]
  refine max_le_iff.trans (and_congr ?_ Iff.rfl)
  refine (block_max_le _ reduces_S1x1024x256_S1 (.inl rfl) rfl (ix1 (n := 1) 0) b).trans ?_
  rw [cast_forall _ _ (fun y : EReal => y ≤ b), cast_forall _ _ (fun y : EReal => y ≤ b)]

/-- The bounds of the running maximum. -/
theorem pay6_le (v : Vec Ideal S1x1024x256 .f32) (a : Elt Ideal .f32) (b : EReal) :
    k0_pay6 v a ≤ b ↔ a ≤ b ∧ (∀ i, v i ≤ b) ∧ 0 ≤ b := by
  unfold k0_pay6
  rw [Ideal.scalar_maximumf_def, ← pay5_le]
  exact max_le_iff

/-- The bounds of the maximum over the gathered maxima. -/
theorem pay7_le (v : Vec Ideal S4x8x128 .f32) (b : EReal) : k0_pay7 v ≤ b ↔ ∀ i, v i ≤ b := by
  unfold k0_pay7
  dsimp only
  rw [extract_cast _ _ _ _ (ix1 (n := 1) 0)]
  refine (block_max_le _ reduces_S1x4x8x128_S1 (.inl rfl) rfl (ix1 (n := 1) 0) b).trans ?_
  rw [cast_forall _ _ (fun y : EReal => y ≤ b)]

/-- The step is the maximum over 127, -/
theorem pay8_eq (v : Vec Ideal S4x8x128 .f32) : k0_pay8 v = Ideal.div (k0_pay7 v) ((127 : ℝ) : EReal) := by
  unfold k0_pay8
  dsimp only
  rw [Ideal.scalar_divf_def, scalar_127]

/-- and its reciprocal 127 over the maximum. -/
theorem pay9_eq (v : Vec Ideal S4x8x128 .f32) : k0_pay9 v = Ideal.div ((127 : ℝ) : EReal) (k0_pay7 v) := by
  unfold k0_pay9
  dsimp only
  rw [Ideal.scalar_divf_def, scalar_127]

/-- A result tile at `(r, j)`. -/
theorem pay10_apply (s q : Elt Ideal .f32) (v : Vec Ideal S1x1024x256 .f32) (r : Fin 1024) (j : Fin 256) :
    k0_pay10 s q v (ix2 (n0 := 1024) (n1 := 256) r j)
      = (min ((127 : ℝ) : EReal) (max 0 (Ideal.liftRound Ideal.roundHalfEven (max (v (ix3 (n0 := 1) (n1 := 1024) (n2 := 256) 0 r j)) 0 * q))) * s : EReal) := by
  unfold k0_pay10
  rw [mulf_apply, minimumf_apply, maximumf_apply]
  show min (Ideal.ofBits .f32 0x42FE0000#32) (max (Ideal.ofBits .f32 0x00000000#32)
    (Ideal.liftRound Ideal.roundHalfEven (max (shapeCast S1024x256 v shapeCasts_S1x1024x256_S1024x256 (ix2 (n0 := 1024) (n1 := 256) r j)) (Ideal.ofBits .f32 0x00000000#32) * q))) * s = _
  rw [bits_127, Ideal.ofBits_zero_f32]
  rw [show shapeCast S1024x256 v shapeCasts_S1x1024x256_S1024x256 (ix2 (n0 := 1024) (n1 := 256) r j) = v (ix3 (n0 := 1) (n1 := 1024) (n2 := 256) 0 r j) from
    shapeCast_1ab_ab_apply (a := 1024) (b := 256) v _ r j]

end Cert.KernelIdealProof

end
-- ==== Proof.KernelIdealValue.lean ====
/-
# The result is the quantized product

On the extended reals the four contraction steps of a tile add up to the whole product, the maximum the devices exchange is
the reference's maximum over the whole product, and so each device's result array is its block of rows of the reference's
result.
-/
module

public import proofs.«01_k».proof.Proof.KernelIdealArray
public import proofs.«01_k».proof.Proof.KernelIdealPays
public import proofs.«01_k».proof.Proof.Gen.ReferenceIdeal.Run
public import Idealize.ShloMosaic.Lib.StackMember
public import Idealize.ShloMosaic.Lib.Layout
public import Idealize.ShloMosaic.Lib.IdealHost

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- The whole product at `(i, j)`. -/
def prodXW (X : FVec Ideal ⟨2, ![4096, 4096]⟩ .f32) (W : FVec Ideal ⟨2, ![4096, 8192]⟩ .f32) (i : Fin 4096) (j : Fin 8192) : EReal :=
  ∑ k : Fin 4096, X (ix2 i k) * W (ix2 k j)

/-- Position `k` of block `p` of four blocks of 1024, -/
def at4 (p : Fin 4) (k : Fin 1024) : Fin 4096 := ⟨1024 * p.val + k.val, by have := p.isLt; have := k.isLt; omega⟩
/-- and position `j` of block `n` of 32 blocks of 256. -/
def at32 (n : Fin 32) (j : Fin 256) : Fin 8192 := ⟨256 * n.val + j.val, by have := n.isLt; have := j.isLt; omega⟩

theorem at4_surj (i : Fin 4096) : ∃ p k, at4 p k = i := by
  have := i.isLt
  refine ⟨⟨i.val / 1024, by omega⟩, ⟨i.val % 1024, by omega⟩, Fin.ext ?_⟩
  show 1024 * (i.val / 1024) + i.val % 1024 = i.val
  omega

theorem at32_surj (i : Fin 8192) : ∃ n j, at32 n j = i := by
  have := i.isLt
  refine ⟨⟨i.val / 256, by omega⟩, ⟨i.val % 256, by omega⟩, Fin.ext ?_⟩
  show 256 * (i.val / 256) + i.val % 256 = i.val
  omega

/-- A sum over 4096 positions is the sum of the four blocks' sums. -/
theorem sum_blocks (f : Fin 4096 → EReal) :
    ∑ k : Fin 4096, f k
      = ∑ k : Fin 1024, f (at4 0 k) + ∑ k : Fin 1024, f (at4 1 k) + ∑ k : Fin 1024, f (at4 2 k) + ∑ k : Fin 1024, f (at4 3 k) := by
  have h : ∑ p : Fin 4, ∑ k : Fin 1024, f (at4 p k) = ∑ k : Fin 4096, f k := by
    rw [← Fintype.sum_prod_type']
    refine Fintype.sum_equiv (finProdFinEquiv (m := 4) (n := 1024)) _ _ fun x => congrArg f (Fin.ext ?_)
    show 1024 * x.1.val + x.2.val = x.2.val + 1024 * x.1.val
    omega
  rw [← h, Fin.sum_univ_four]

variable (m : (ℓ : Loc nD τ sig) → Buf (Elt Ideal) ℓ)
variable (X : FVec Ideal ⟨2, ![4096, 4096]⟩ .f32) (W : FVec Ideal ⟨2, ![4096, 8192]⟩ .f32)

/-- Every device holds its block of columns of `X` in its first argument and all of `W` in its second. -/
structure Holds : Prop where
  cols : ∀ c : Dev nD, m ((c : Thread nD τ).loc main_arg0) = Layout.block ⟨2, ![4096, 1024]⟩ ⟨2, ![4096, 4096]⟩ 1 4 c X
  full : ∀ c : Dev nD, m ((c : Thread nD τ).loc main_arg1) = W

variable {m X W}

/-- Device `p`'s columns of `x`. -/
theorem Holds.xin_apply (H : Holds m X W) (p : Dev nD) (i : Fin 4096) (k : Fin 1024) :
    xin m p (ix2 (n0 := 4096) (n1 := 1024) i k) = X (ix2 i (at4 p k)) := by
  unfold xin
  rw [H.cols p, Layout.block_apply]
  congr 1
  funext a
  fin_cases a
  · rfl
  · exact Fin.ext (by show p.val * 1024 + k.val = 1024 * p.val + k.val; omega)

/-- Slot `p` of device `c`, cast: rows of block `c` and columns of block `p` of `X`. -/
theorem Holds.xb_apply (H : Holds m X W) (c : Dev nD) (p : Fin 4) (r k : Fin 1024) :
    xbC m c p (ix2 (n0 := 1024) (n1 := 1024) r k) = X (ix2 (at4 c r) (at4 p k)) := by
  unfold xbC
  rw [pay1_apply, slot_apply]
  exact H.xin_apply p (at4 c r) k

/-- The block of `w` staged for step `p` of tile `n`. -/
theorem Holds.wb_apply (H : Holds m X W) (c : Dev nD) (p : Fin 4) (n : Fin 32) (t : ℕ) (ht : t = 32 * p.val + n.val) (k : Fin 1024) (j : Fin 256) :
    wB m c t (ix2 (n0 := 1024) (n1 := 256) k j) = W (ix2 (at4 p k) (at32 n j)) := by
  have hp := p.isLt
  have hn := n.isLt
  rw [wB_apply m c t (by omega), H.full c]
  refine congrArg W (congrArg₂ ix2 (Fin.ext ?_) (Fin.ext ?_))
  · show 1024 * (t / 32) + k.val = 1024 * p.val + k.val
    omega
  · show 256 * (t % 32) + j.val = 256 * n.val + j.val
    omega

/-- One contraction step of a tile. -/
theorem Holds.step_apply (H : Holds m X W) (c : Dev nD) (p : Fin 4) (n : Fin 32) (t : ℕ) (ht : t = 32 * p.val + n.val) (r : Fin 1024) (j : Fin 256) :
    k0_pay2 (wB m c t) (xbC m c p) (ix2 (n0 := 1024) (n1 := 256) r j)
      = ∑ k : Fin 1024, (X (ix2 (at4 c r) (at4 p k)) * W (ix2 (at4 p k) (at32 n j)) : EReal) := by
  rw [pay2_apply]
  exact Finset.sum_congr rfl fun k _ => by rw [H.xb_apply, H.wb_apply c p n t ht]

/-- A finished tile is a tile of the whole product. -/
theorem Holds.acc_apply (H : Holds m X W) (c : Dev nD) (n : Fin 32) (u : Fin 1) (r : Fin 1024) (j : Fin 256) :
    accC m c n.val 4 (ix3 (n0 := 1) (n1 := 1024) (n2 := 256) u r j) = prodXW X W (at4 c r) (at32 n j) := by
  have e : accC m c n.val 4 = k0_pay4 (wB m c (32 * 3 + n.val)) (xbC m c 3)
      (k0_pay4 (wB m c (32 * 2 + n.val)) (xbC m c 2)
        (k0_pay4 (wB m c (32 * 1 + n.val)) (xbC m c 1) (k0_pay3 (wB m c n.val) (xbC m c 0)))) := rfl
  rw [e, pay4_apply, pay4_apply, pay4_apply, pay3_apply, H.step_apply c 0 n _ (by simp), H.step_apply c 1 n (32 * 1 + n.val) rfl, H.step_apply c 2 n (32 * 2 + n.val) rfl,
    H.step_apply c 3 n (32 * 3 + n.val) rfl]
  exact (sum_blocks fun k => X (ix2 (at4 c r) k) * W (ix2 k (at32 n j))).symm

/-- The bounds of a finished tile. -/
theorem Holds.acc_le (H : Holds m X W) (c : Dev nD) (n : Fin 32) (b : EReal) :
    (∀ i, accC m c n.val 4 i ≤ b) ↔ ∀ r j, prodXW X W (at4 c r) (at32 n j) ≤ b := by
  constructor
  · intro h r j
    rw [← H.acc_apply c n 0 r j]; exact h _
  · intro h i
    obtain ⟨u, r, j, rfl⟩ : ∃ (u : Fin 1) (r : Fin 1024) (j : Fin 256), i = ix3 (n0 := 1) (n1 := 1024) (n2 := 256) u r j :=
      ⟨i 0, i 1, i 2, eq_ix3 i⟩
    rw [H.acc_apply]; exact h r j

/-- The bounds of a device's running maximum after tile `n`. -/
theorem Holds.loc_le (H : Holds m X W) (c : Dev nD) (b : EReal) : ∀ n : ℕ, n < 32 →
    (locM m c n ≤ b ↔ (∀ q : Fin 32, q.val ≤ n → ∀ r j, prodXW X W (at4 c r) (at32 q j) ≤ b) ∧ 0 ≤ b)
  | 0, h => by
    refine (pay5_le _ b).trans (and_congr ((H.acc_le c 0 b).trans ?_) Iff.rfl)
    constructor
    · intro h q hq
      obtain rfl : q = 0 := Fin.ext (Nat.le_zero.mp hq)
      exact h
    · exact fun h => h 0 le_rfl
  | n + 1, h => by
    refine (pay6_le _ _ b).trans ?_
    rw [H.loc_le c b n (by omega), H.acc_le c ⟨n + 1, h⟩ b]
    constructor
    · rintro ⟨⟨h1, -⟩, h2, h0⟩
      refine ⟨fun q hq => ?_, h0⟩
      rcases Nat.lt_or_ge q.val (n + 1) with hl | hg
      · exact h1 q (by omega)
      · obtain rfl : q = ⟨n + 1, h⟩ := Fin.ext (le_antisymm hq hg)
        exact h2
    · rintro ⟨h1, h0⟩
      exact ⟨⟨fun q hq => h1 q (by omega), h0⟩, h1 ⟨n + 1, h⟩ le_rfl, h0⟩

/-- The bounds of the maximum every device ends up with: those of the whole product, and zero. -/
theorem Holds.gmax_le (H : Holds m X W) (b : EReal) : k0_pay7 (amaxC m) ≤ b ↔ (∀ i j, prodXW X W i j ≤ b) ∧ 0 ≤ b := by
  rw [pay7_le]
  have hs : ∀ i : S4x8x128.Idx, amaxC m i = locM m (i 0) 31 := fun i => by
    unfold amaxC aBuf k0_pay11
    rw [shapeCast_self, broadcast_apply]
  constructor
  · intro h
    have hl : ∀ s : Dev nD, locM m s 31 ≤ b := fun s => by
      have e := h (ix3 (n0 := 4) (n1 := 8) (n2 := 128) s 0 0)
      rwa [hs] at e
    refine ⟨fun i j => ?_, ((H.loc_le 0 b 31 (by omega)).mp (hl 0)).2⟩
    obtain ⟨c, r, rfl⟩ := at4_surj i
    obtain ⟨n, j, rfl⟩ := at32_surj j
    exact ((H.loc_le c b 31 (by omega)).mp (hl c)).1 n (by have := n.isLt; omega) r j
  · rintro ⟨h, h0⟩ i
    rw [hs]
    exact (H.loc_le (i 0) b 31 (by omega)).mpr ⟨fun q _ r j => h _ _, h0⟩

/-- An element of the result array of device `c`, from the whole product and the common maximum. -/
theorem Holds.res_apply (H : Holds m X W) (c : Dev nD) (r : Fin 1024) (J : Fin 8192) :
    resC m c (ix2 (n0 := 1024) (n1 := 8192) r J)
      = (min ((127 : ℝ) : EReal) (max 0 (Ideal.liftRound Ideal.roundHalfEven
          (max (prodXW X W (at4 c r) J) 0 * Ideal.div ((127 : ℝ) : EReal) (k0_pay7 (amaxC m)))))
        * Ideal.div (k0_pay7 (amaxC m)) ((127 : ℝ) : EReal) : EReal) := by
  obtain ⟨n, j, rfl⟩ := at32_surj J
  have hj := j.isLt
  have e : resC m c (ix2 (n0 := 1024) (n1 := 8192) r (at32 n j)) = outC m c n.val (ix2 (n0 := 1024) (n1 := 256) r j) := by
    have e' : ∀ (q : ℕ) (b : ℕ) (hb : b < 256), q = n.val → b = j.val →
        outC m c q (ix2 (n0 := 1024) (n1 := 256) r ⟨b, hb⟩) = outC m c n.val (ix2 (n0 := 1024) (n1 := 256) r j) := by
      rintro q b hb rfl rfl; rfl
    exact e' ((256 * n.val + j.val) / 256) ((256 * n.val + j.val) % 256) (Nat.mod_lt _ (by norm_num)) (by omega) (by omega)
  rw [e]
  unfold outC
  rw [pay10_apply, H.acc_apply, pay8_eq, pay9_eq]

/-! ## The reference -/

/-- The reference's product, rectified. -/
def refY (X : FVec Ideal Cert.ReferenceIdeal.S4096x4096 .f32) (W : FVec Ideal Cert.ReferenceIdeal.S4096x8192 .f32) : FVec Ideal Cert.ReferenceIdeal.S4096x8192 .f32 :=
  maximumf (Host.dotGeneral Cert.ReferenceIdeal.dot_S4096x4096_S4096x8192_S4096x8192_1_0_0_1_n_n none X W)
    (broadcastInDim Cert.ReferenceIdeal.S4096x8192 ![] Cert.ReferenceIdeal.Facts₀.bcast_S_S4096x8192 (constant Cert.ReferenceIdeal.S_ .f32 0x00000000#32))

/-- The reference's maximum. -/
def refM (X : FVec Ideal Cert.ReferenceIdeal.S4096x4096 .f32) (W : FVec Ideal Cert.ReferenceIdeal.S4096x8192 .f32) : FVec Ideal Cert.ReferenceIdeal.S_ .f32 :=
  Host.reduce FloatOps.maximumf (Host.absf (refY X W)) (constant Cert.ReferenceIdeal.S_ .f32 0xFF800000#32)
    Cert.ReferenceIdeal.Facts₀.reducesTo_S4096x8192_S_d0_1 Cert.ReferenceIdeal.Facts₀.h_S_

/-- The reference's step. -/
def refS (X : FVec Ideal Cert.ReferenceIdeal.S4096x4096 .f32) (W : FVec Ideal Cert.ReferenceIdeal.S4096x8192 .f32) : FVec Ideal Cert.ReferenceIdeal.S4096x8192 .f32 :=
  broadcastInDim Cert.ReferenceIdeal.S4096x8192 ![] Cert.ReferenceIdeal.Facts₀.bcast_S_S4096x8192
    (Host.divf (refM X W) (constant Cert.ReferenceIdeal.S_ .f32 0x42FE0000#32))

/-- The reference's result. -/
def refOut (X : FVec Ideal Cert.ReferenceIdeal.S4096x4096 .f32) (W : FVec Ideal Cert.ReferenceIdeal.S4096x8192 .f32) : FVec Ideal Cert.ReferenceIdeal.S4096x8192 .f32 :=
  mulf (minimumf (broadcastInDim Cert.ReferenceIdeal.S4096x8192 ![] Cert.ReferenceIdeal.Facts₀.bcast_S_S4096x8192 (id (constant Cert.ReferenceIdeal.S_ .f32 0x42FE0000#32)))
    (maximumf (broadcastInDim Cert.ReferenceIdeal.S4096x8192 ![] Cert.ReferenceIdeal.Facts₀.bcast_S_S4096x8192 (id (constant Cert.ReferenceIdeal.S_ .f32 0xC2FE0000#32)))
      (Host.roundeven (Host.divf (refY X W) (refS X W))))) (refS X W)

theorem refY_apply (i : Fin 4096) (j : Fin 8192) : refY X W (ix2 i j) = max (prodXW X W i j) 0 := by
  unfold refY
  rw [maximumf_apply, broadcastInDim_scalar_apply, constant_apply, Ideal.ofBits_zero_f32]
  exact congrArg (max · 0) (StackMember.dotGeneral_plain_apply (m := 4096) (n := 8192) (k := 4096) none X W i j)

/-- The bounds of the reference's maximum. -/
theorem refM_le (o : Cert.ReferenceIdeal.S_.Idx) (b : EReal) : refM X W o ≤ b ↔ (∀ i j, prodXW X W i j ≤ b) ∧ 0 ≤ b := by
  unfold refM
  rw [Host.reduce_eq_fold, constant_apply, bits_neg_inf]
  show Finset.fold max ⊥ (Host.absf (refY X W)) _ ≤ b ↔ _
  rw [Finset.fold_max_le]
  have ha : ∀ i j, Host.absf (refY X W) (ix2 i j) = max (prodXW X W i j) 0 := fun i j => by
    show max (refY X W (ix2 i j)) (-(refY X W (ix2 i j))) = _
    rw [refY_apply]
    have h0 : (0 : EReal) ≤ max (prodXW X W i j) 0 := le_max_right _ _
    exact max_eq_left ((EReal.neg_le.mpr (by rw [neg_zero]; exact h0) : -(max (prodXW X W i j) 0) ≤ 0).trans h0)
  constructor
  · rintro ⟨-, h⟩
    have h' : ∀ i j, max (prodXW X W i j) 0 ≤ b := fun i j => by
      rw [← ha]
      exact h _ (Finset.mem_filter.mpr ⟨Finset.mem_univ _, (eq_ix0 _).trans (eq_ix0 o).symm⟩)
    exact ⟨fun i j => (le_max_left _ _).trans (h' i j), (le_max_right _ _).trans (h' 0 0)⟩
  · rintro ⟨h, h0⟩
    refine ⟨bot_le, fun i _ => ?_⟩
    obtain ⟨a, j, rfl⟩ : ∃ (a : Fin 4096) (j : Fin 8192), i = ix2 a j := ⟨i 0, i 1, eq_ix2 (n0 := 4096) (n1 := 8192) i⟩
    rw [ha]
    exact max_le (h _ _) h0

theorem refS_apply (i : Fin 4096) (j : Fin 8192) : refS X W (ix2 i j) = Ideal.div (refM X W ix0) ((127 : ℝ) : EReal) := by
  unfold refS
  rw [broadcastInDim_scalar_apply, hostDivf_apply, constant_apply, bits_127]

/-- The reference's result at `(i, j)`. -/
theorem refOut_apply (i : Fin 4096) (j : Fin 8192) :
    refOut X W (ix2 i j)
      = (min ((127 : ℝ) : EReal) (max ((-127 : ℝ) : EReal) (Ideal.liftRound Ideal.roundHalfEven
          (Ideal.div (max (prodXW X W i j) 0) (Ideal.div (refM X W ix0) ((127 : ℝ) : EReal)))))
        * Ideal.div (refM X W ix0) ((127 : ℝ) : EReal) : EReal) := by
  unfold refOut
  rw [mulf_apply, minimumf_apply, maximumf_apply, broadcastInDim_scalar_apply, broadcastInDim_scalar_apply, refS_apply]
  have hr : Host.roundeven (Host.divf (refY X W) (refS X W)) (ix2 i j)
      = Ideal.liftRound Ideal.roundHalfEven (Ideal.div (refY X W (ix2 i j)) (refS X W (ix2 i j))) := rfl
  rw [hr, refY_apply, refS_apply, id, id, constant_apply, constant_apply, bits_127, bits_neg_127]

/-- The devices' common maximum is the reference's. -/
theorem Holds.gmax_eq (H : Holds m X W) : k0_pay7 (amaxC m) = refM X W ix0 :=
  eq_of_forall_ge_iff fun b => (H.gmax_le b).trans (refM_le ix0 b).symm

/-- Each device's result array is its block of rows of the reference's result. -/
theorem Holds.final_eq (H : Holds m X W) (c : Dev nD) :
    finalA m c 1 = Layout.block ⟨2, ![1024, 8192]⟩ ⟨2, ![4096, 8192]⟩ 0 4 c (refOut X W) := by
  rw [final_res]
  funext i
  obtain ⟨r, j, rfl⟩ : ∃ (r : Fin 1024) (j : Fin 8192), i = ix2 (n0 := 1024) (n1 := 8192) r j := ⟨i 0, i 1, eq_ix2 i⟩
  rw [Layout.block_apply, H.res_apply]
  have e : (show Layout.Tiles ⟨2, ![1024, 8192]⟩ ⟨2, ![4096, 8192]⟩ 0 4 by decide).idx c (ix2 (n0 := 1024) (n1 := 8192) r j)
      = ix2 (n0 := 4096) (n1 := 8192) (at4 c r) j := by
    funext a
    fin_cases a
    · exact Fin.ext (by show c.val * 1024 + r.val = 1024 * c.val + r.val; omega)
    · rfl
  refine Eq.trans ?_ (congrArg (refOut X W) e).symm
  rw [refOut_apply, ← H.gmax_eq]
  have hb := (H.gmax_le (k0_pay7 (amaxC m))).mp le_rfl
  exact quant_eq (le_max_right _ _) (max_le (hb.1 _ _) hb.2)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- Every execution of the kernel on four devices terminates with the arguments unchanged and every counter at zero, -/
theorem frame_kernel : Cert.quiescent_Kernel := fun m ρ _ => Cert.KernelProof.frame_main (F := Bits) m ρ

/-- and so does every execution of the idealized kernel, -/
theorem frame_kernelIdeal : Cert.quiescent_KernelIdeal := fun m ρ _ => Cert.KernelIdealProof.frame_main (F := Ideal) m ρ

/-- and of the reference, a line of host operations that declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- In exact arithmetic every device's result is its block of rows of the reference's result. -/
theorem algebraic_kernel : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  exact (θ_run Cert.KernelIdeal.defs _ _).mono
    (fun _ h c => ⟨(h c).1.trans (Cert.KernelIdealProof.Holds.final_eq ⟨fun c => (hagree c).1, fun c => (hagree c).2⟩ c), (h c).2⟩)
    (Cert.KernelIdealProof.value_main (F := Ideal) m ρ)

/-- Everything the certificate claims. -/
theorem claim : Cert.Claim := ⟨Cert.Kernel.Gen.facts, Cert.KernelIdeal.Gen.facts, Cert.ReferenceIdeal.Gen.facts,
  frame_kernel, frame_kernelIdeal, frame_reference, trivial, algebraic_kernel⟩

end Cert.Proof

end
